-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_domain [hPre_in_domain : Cert.Pre_in_domain.Facts] (m : (ℓ : Loc Cert.KernelIdeal.nD Cert.KernelIdeal.τ Cert.KernelIdeal.sig) → Buf (Elt Ideal) ℓ) : Prop :=
  ∀ c : Dev Cert.KernelIdeal.nD,
    (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_domain [hPre_in_domain : Cert.Pre_in_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_domain [hKernelIdeal : Cert.KernelIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_domain [hReferenceIdeal : Cert.ReferenceIdeal.Facts] [hPre_in_domain : Cert.Pre_in_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_domain [hKernelIdeal : Cert.KernelIdeal.Facts] [hReferenceIdeal : Cert.ReferenceIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_domain : Cert.Pre_in_domain.Facts),
    quiescent_Kernel (hKernel := hKernel)
    ∧ quiescent_KernelIdeal (hKernelIdeal := hKernelIdeal)
    ∧ quiescent_KernelIdeal_pre_in_domain (hKernelIdeal := hKernelIdeal) (hPre_in_domain := hPre_in_domain)
    ∧ quiescent_ReferenceIdeal (hReferenceIdeal := hReferenceIdeal)
    ∧ quiescent_ReferenceIdeal_pre_in_domain (hReferenceIdeal := hReferenceIdeal) (hPre_in_domain := hPre_in_domain)
    ∧ preserves_Kernel_KernelIdeal
    ∧ algebraic_KernelIdeal_ReferenceIdeal_pre_in_domain (hKernelIdeal := hKernelIdeal) (hReferenceIdeal := hReferenceIdeal) (hPre_in_domain := hPre_in_domain)
-- ==== Pre_in_domain.lean ====
abbrev S8x2048x1024 : Shape := ⟨3, ![8, 2048, 1024]⟩
abbrev S_ : Shape := ⟨0, ![]⟩

class Facts : Prop where
  bcast_S_S8x2048x1024 : S_.BroadcastsInDim S8x2048x1024 (![] : Fin 0 → Fin S8x2048x1024.rank)

variable [Facts]

def fn {F : FTy → Type} [FloatOps F] (main_arg0 : FVec F S8x2048x1024 .f32) (main_arg1 : FVec F S8x2048x1024 .f32) : IVec S8x2048x1024 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_cst_0 : FVec F S_ .f32 := constant S_ .f32 0x00000000#32
  let main_v3 : FVec F S8x2048x1024 .f32 := broadcastInDim S8x2048x1024 ![] bcast_S_S8x2048x1024 main_cst_0
  let main_v4 : IVec S8x2048x1024 1 := cmpf .ogt main_arg1 main_v3
  let main_v5 : IVec S8x2048x1024 1 := andi main_v2 main_v4
  let main_cst_1 : FVec F S_ .f32 := constant S_ .f32 0x3F800000#32
  let main_v6 : FVec F S8x2048x1024 .f32 := broadcastInDim S8x2048x1024 ![] bcast_S_S8x2048x1024 main_cst_1
  let main_v7 : IVec S8x2048x1024 1 := cmpf .olt main_arg1 main_v6
  let main_v8 : IVec S8x2048x1024 1 := andi main_v5 main_v7
  main_v8
-- ==== Kernel.lean ====
abbrev S8x2048x1024 : Shape := ⟨3, ![8, 2048, 1024]⟩
abbrev S16384x1024 : Shape := ⟨2, ![16384, 1024]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 6
  | .vmem => 6
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S8x2048x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S2048x1024, .f32⟩
  | .local _ .vmem, ⟨5, _⟩ => ⟨S2048x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2097152 : Shape := ⟨2, ![8, 2097152]⟩
abbrev S8x209715 : Shape := ⟨2, ![8, 209715]⟩
abbrev S8 : Shape := ⟨1, ![8]⟩
abbrev S8x1 : Shape := ⟨2, ![8, 1]⟩
abbrev S8x209715x1 : Shape := ⟨3, ![8, 209715, 1]⟩
abbrev S8x209715x2 : Shape := ⟨3, ![8, 209715, 2]⟩

abbrev nBuf : Space → Nat
  | .hbm => 65
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x1024, .f32⟩
  | .hbm, ⟨4, _⟩ => ⟨S8x2048x1024, .f32⟩
  | .hbm, ⟨5, _⟩ => ⟨S8x2048x1024, .f32⟩
  | .hbm, ⟨6, _⟩ => ⟨S8x2048x1024, .f32⟩
  | .hbm, ⟨7, _⟩ => ⟨S_, .f32⟩
  | .hbm, ⟨8, _⟩ => ⟨S8x2048x1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S_, .f32⟩
  | .hbm, ⟨13, _⟩ => ⟨S8x2048, .f32⟩
  | .hbm, ⟨14, _⟩ => ⟨S8x2048, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S8x2048x1024, .f32⟩
  | .hbm, ⟨23, _⟩ => ⟨S8x2048x1024, .f32⟩
  | .hbm, ⟨24, _⟩ => ⟨S8x2048x1024, .i32⟩
  | .hbm, ⟨25, _⟩ => ⟨S_, .f32⟩
  | .hbm, ⟨26, _⟩ => ⟨S_, .i32⟩
  | .hbm, ⟨27, _⟩ => ⟨S8x2048, .f32⟩
  | .hbm, ⟨28, _⟩ => ⟨S8x2048, .i32⟩
  | .hbm, ⟨29, _⟩ => ⟨S8x2048x1, .i32⟩
  | .hbm, ⟨30, _⟩ => ⟨S1x1x1024, .i32⟩
  | .hbm, ⟨31, _⟩ => ⟨S8x2048x1024, .i32⟩
  | .hbm, ⟨32, _⟩ => ⟨S8x2048x1024, .i32⟩
  | .hbm, ⟨33, _⟩ => ⟨S8x2048x1024, .i1⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S8x2097152, .f32⟩
  | .hbm, ⟨38, _⟩ => ⟨S8x2097152, .f32⟩
  | .hbm, ⟨39, _⟩ => ⟨S8x209715, .f32⟩
  | .hbm, ⟨40, _⟩ => ⟨S8x209715, .i32⟩
  | .hbm, ⟨41, _⟩ => ⟨S8, .i32⟩
  | .hbm, ⟨42, _⟩ => ⟨S8x1, .i32⟩
  | .hbm, ⟨43, _⟩ => ⟨S_, .i32⟩
  | .hbm, ⟨44, _⟩ => ⟨S8x1, .i32⟩
  | .hbm, ⟨45, _⟩ => ⟨S8x1, .i1⟩
  | .hbm, ⟨46, _⟩ => ⟨S_, .i32⟩
  | .hbm, ⟨47, _⟩ => ⟨S8x1, .i32⟩
  | .hbm, ⟨48, _⟩ => ⟨S8x1, .i32⟩
  | .hbm, ⟨49, _⟩ => ⟨S8x1, .i32⟩
  | .hbm, ⟨50, _⟩ => ⟨S_, .i32⟩
  | .hbm, ⟨51, _⟩ => ⟨S8x209715, .i32⟩
  | .hbm, ⟨52, _⟩ => ⟨S8x209715, .i1⟩
  | .hbm, ⟨53, _⟩ => ⟨S_, .i32⟩
  | .hbm, ⟨54, _⟩ => ⟨S8x209715, .i32⟩
  | .hbm, ⟨55, _⟩ => ⟨S8x209715, .i32⟩
  | .hbm, ⟨56, _⟩ => ⟨S8x209715, .i32⟩
  | .hbm, ⟨57, _⟩ => ⟨S8x209715, .i32⟩
  | .hbm, ⟨58, _⟩ => ⟨S8x209715x1, .i32⟩
  | .hbm, ⟨59, _⟩ => ⟨S8x209715x1, .i32⟩
  | .hbm, ⟨60, _⟩ => ⟨S8x209715x2, .i32⟩
  | .hbm, ⟨61, _⟩ => ⟨S_, .f32⟩
  | .hbm, ⟨62, _⟩ => ⟨S8x209715, .f32⟩
  | .hbm, ⟨63, _⟩ => ⟨S8x2097152, .f32⟩
  | .hbm, ⟨64, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_cst : Ref sig .tc := ⟨.hbm, 25, rfl⟩
abbrev main_call0_c : Ref sig .tc := ⟨.hbm, 26, rfl⟩
abbrev main_call0_v1_0 : Ref sig .tc := ⟨.hbm, 27, rfl⟩
abbrev main_v18 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_values : Ref sig .tc := ⟨.hbm, 39, rfl⟩
abbrev main_indices : Ref sig .tc := ⟨.hbm, 40, rfl⟩
abbrev main_v24 : Ref sig .tc := ⟨.hbm, 41, rfl⟩
abbrev main_v25 : Ref sig .tc := ⟨.hbm, 42, rfl⟩
abbrev main_c : Ref sig .tc := ⟨.hbm, 43, rfl⟩
abbrev main_v26 : Ref sig .tc := ⟨.hbm, 44, rfl⟩
abbrev main_v27 : Ref sig .tc := ⟨.hbm, 45, rfl⟩
abbrev main_c_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_4 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩

abbrev nD : Nat := 1
abbrev τ : Topo := Topo.v7x

variable {F : FTy → Type} [FloatOps F]
-- ==== Proof.RefRun.lean ====
/-
  The reference program run line by line, and what it leaves in its result array, as a term over its two arguments.

  The reference is a straight line of host operations. It is cut here into three windows, each read by itself:
  `softmaxOps` (the noise, the sum with the logits and the softmax), `maskOps` (the arg-max, its one-hot row and the
  straight-through sum, flattened to one row per batch) and `dropOps` (the search for the smallest entries of each
  batch and the write of 0 there). `run` says that every run ends with the result array at
  `dropped (flatMask (probs logits u))` and with both arguments as they were.
-/
module

public import proofs.«01_k».proof.Defs
public import proofs.«01_k».proof.Proof.Gen.ReferenceIdeal
public import Idealize.ShloMosaic.Lib.StableHlo.Run
public import Idealize.ShloMosaic.Lib.StableHlo.RunHlo
public import Idealize.ShloMosaic.Lib.StableHlo.RunRead

@[expose] public section

set_option maxRecDepth 16384

noncomputable section

namespace Cert.ReferenceIdeal.Hand

open Idealize.ShloMosaic Idealize.ShloMosaic.TcCoe Idealize.SL.Sem Idealize.ShloMosaic.StableHlo
open Cert.ReferenceIdeal Cert.ReferenceIdeal.Gen

variable {F : FTy → Type} [FloatOps F]

/-! ## The values -/

/-- The scores: the logits plus the Gumbel noise of `u`, divided by the temperature 1. -/
def scores (l u : FVec F S8x2048x1024 .f32) : FVec F S8x2048x1024 .f32 :=
  Host.divf (addf l (Host.negf (Host.log (Host.negf (Host.log u)))))
    (broadcastInDim S8x2048x1024 ![] bcast_S_S8x2048x1024 (constant S_ .f32 0x3F800000#32))

/-- Each row's greatest score. -/
def rowMax (z : FVec F S8x2048x1024 .f32) : FVec F S8x2048 .f32 :=
  Host.reduce FloatOps.maximumf z (constant S_ .f32 0xFF800000#32) reducesTo_S8x2048x1024_S8x2048_d2 h_S_

/-- The exponentials of the scores less a table of one number per row. -/
def expoAt (z : FVec F S8x2048x1024 .f32) (t : FVec F S8x2048 .f32) : FVec F S8x2048x1024 .f32 :=
  Host.exp (subf z (broadcastInDim S8x2048x1024 ![0, 1, 2] bcast_S8x2048x1_S8x2048x1024_0_1_2
    (broadcastInDim S8x2048x1 ![0, 1] bcast_S8x2048_S8x2048x1_0_1
      (maximumf (broadcastInDim S8x2048 ![] bcast_S_S8x2048 (constant S_ .f32 0xFF800000#32)) t))))

/-- The exponentials of the scores less their row's greatest. -/
def expo (z : FVec F S8x2048x1024 .f32) : FVec F S8x2048x1024 .f32 := expoAt z (rowMax z)

/-- Each exponential over its row's sum. -/
def normalised (e : FVec F S8x2048x1024 .f32) : FVec F S8x2048x1024 .f32 :=
  Host.divf e (broadcastInDim S8x2048x1024 ![0, 1, 2] bcast_S8x2048x1_S8x2048x1024_0_1_2
    (broadcastInDim S8x2048x1 ![0, 1] bcast_S8x2048_S8x2048x1_0_1
      (Host.reduceAdd e (constant S_ .f32 0x00000000#32) reducesTo_S8x2048x1024_S8x2048_d2 h_S_)))

/-- The softmax of the scores. -/
def probs (l u : FVec F S8x2048x1024 .f32) : FVec F S8x2048x1024 .f32 := normalised (expo (scores l u))

/-- The position of each row's greatest entry, as a word. -/
def best (y : FVec F S8x2048x1024 .f32) : IVec S8x2048 32 := fun j =>
  (Host.argReduce reducer_argmax_f32_i32 y (iotaInDim S8x2048x1024 32 2) (constant S_ .f32 0xFF800000#32) (constantI S_ 32 0#32)
    reducesTo_S8x2048x1024_S8x2048_d2 h_S_ j).2

/-- The one-hot rows of a table of positions. -/
def oneHot (b : IVec S8x2048 32) : FVec F S8x2048x1024 .f32 :=
  uitofp .f32 (cmpi .eq
    (broadcastInDim S8x2048x1024 ![0, 1, 2] bcast_S8x2048x1_S8x2048x1024_0_1_2
      (broadcastInDim S8x2048x1 ![0, 1] bcast_S8x2048_S8x2048x1_0_1 b))
    (broadcastInDim S8x2048x1024 ![0, 1, 2] bcast_S1x1x1024_S8x2048x1024_0_1_2 (iotaInDim S1x1x1024 32 2)))

/-- The straight-through mask: the one-hot rows plus the probabilities, less the probabilities. -/
def mask (y : FVec F S8x2048x1024 .f32) : FVec F S8x2048x1024 .f32 := subf (addf (oneHot (best y)) y) y

/-- The mask, one row per batch. -/
def flatMask (y : FVec F S8x2048x1024 .f32) : FVec F S8x2097152 .f32 :=
  shapeCast S8x2097152 (mask y) shapeCasts_S8x2048x1024_S8x2097152

/-- The positions of the 209715 smallest entries of each batch: a top-k of the negated row. -/
def smallest (x : FVec F S8x2097152 .f32) : IVec S8x209715 32 :=
  (Host.topK S8x209715 1 (FloatOps.cmpfTotal .gt) (Host.negf x) sliceFits_S8x2097152_S8x209715).2

/-- The batch numbers, a negative one counted from the end. -/
def batches : IVec S8x1 32 :=
  select (cmpi .slt (broadcastInDim S8x1 ![0] bcast_S8_S8x1_0 (iotaInDim S8 32 0)) (broadcastInDim S8x1 ![] bcast_S_S8x1 (constantI S_ 32 0#32)))
    (addi (broadcastInDim S8x1 ![0] bcast_S8_S8x1_0 (iotaInDim S8 32 0)) (broadcastInDim S8x1 ![] bcast_S_S8x1 (constantI S_ 32 8#32)))
    (broadcastInDim S8x1 ![0] bcast_S8_S8x1_0 (iotaInDim S8 32 0))

/-- The positions, a negative one counted from the end. -/
def places (p : IVec S8x209715 32) : IVec S8x209715 32 :=
  select (cmpi .slt p (broadcastInDim S8x209715 ![] bcast_S_S8x209715 (constantI S_ 32 0#32)))
    (addi p (broadcastInDim S8x209715 ![] bcast_S_S8x209715 (constantI S_ 32 2097152#32))) p

/-- Two tables of words side by side, as pairs. -/
def pairUp (a b : (⟨S8x209715x1, .i32⟩ : BufTy).Contents (Elt F)) : (⟨S8x209715x2, .i32⟩ : BufTy).Contents (Elt F) :=
  concatenate S8x209715x2 2 [⟨S8x209715x1, a⟩, ⟨S8x209715x1, b⟩] concatenates_S8x209715x1_S8x209715x1_S8x209715x2_d2

/-- The pairs (batch, position) at which 0 is written. -/
def targets (p : IVec S8x209715 32) : IVec S8x209715x2 32 :=
  pairUp (F := F)
    (broadcastInDim S8x209715x1 ![0, 1] bcast_S8x209715_S8x209715x1_0_1 (broadcastInDim S8x209715 ![0, 1] bcast_S8x1_S8x209715_0_1 batches))
    (broadcastInDim S8x209715x1 ![0, 1] bcast_S8x209715_S8x209715x1_0_1 (places p))

/-- A batch row with 0 written at its smallest entries, back in three axes. -/
def dropped (x : FVec F S8x2097152 .f32) : FVec F S8x2048x1024 .f32 :=
  shapeCast S8x2048x1024
    (Host.scatter scatter_S8x2097152_S8x209715x2_S8x209715_n_01_01_2 (fun _ b => b) x (targets (F := F) (smallest x))
      (broadcastInDim S8x209715 ![] bcast_S_S8x209715 (constant S_ .f32 0x00000000#32)))
    shapeCasts_S8x2097152_S8x2048x1024

/-! ## The lines -/

/-- The lines from the Gumbel noise to the softmax: they end by writing the probabilities. -/
def softmaxOps : List (HloOp τ sig (Elt F)) := [
  StableHlo.unary main_arg1 main_v0 (Host.log : (⟨S8x2048x1024, .f32⟩ : BufTy).Contents (Elt F) → (⟨S8x2048x1024, .f32⟩ : BufTy).Contents (Elt F)),
  StableHlo.unary main_v0 main_v1 (Host.negf : (⟨S8x2048x1024, .f32⟩ : BufTy).Contents (Elt F) → (⟨S8x2048x1024, .f32⟩ : BufTy).Contents (Elt F)),
  StableHlo.unary main_v1 main_v2 (Host.log : (⟨S8x2048x1024, .f32⟩ : BufTy).Contents (Elt F) → (⟨S8x2048x1024, .f32⟩ : BufTy).Contents (Elt F)),
  StableHlo.unary main_v2 main_v3 (Host.negf : (⟨S8x2048x1024, .f32⟩ : BufTy).Contents (Elt F) → (⟨S8x2048x1024, .f32⟩ : BufTy).Contents (Elt F)),
  StableHlo.binary main_arg0 main_v3 main_v4 (addf : (⟨S8x2048x1024, .f32⟩ : BufTy).Contents (Elt F) → (⟨S8x2048x1024, .f32⟩ : BufTy).Contents (Elt F) → (⟨S8x2048x1024, .f32⟩ : BufTy).Contents (Elt F)),
  StableHlo.nullary main_cst (constant S_ .f32 0x3F800000#32),
  StableHlo.unary main_cst main_v5 (broadcastInDim S8x2048x1024 ![] bcast_S_S8x2048x1024 : (⟨S_, .f32⟩ : BufTy).Contents (Elt F) → (⟨S8x2048x1024, .f32⟩ : BufTy).Contents (Elt F)),
  StableHlo.binary main_v4 main_v5 main_v6 (Host.divf : (⟨S8x2048x1024, .f32⟩ : BufTy).Contents (Elt F) → (⟨S8x2048x1024, .f32⟩ : BufTy).Contents (Elt F) → (⟨S8x2048x1024, .f32⟩ : BufTy).Contents (Elt F)),
  StableHlo.nullary main_cst_0 (constant S_ .f32 0xFF800000#32),
  StableHlo.binary main_v6 main_cst_0 main_v7 ((fun x v => Host.reduce FloatOps.maximumf x v reducesTo_S8x2048x1024_S8x2048_d2 h_S_) : (⟨S8x2048x1024, .f32⟩ : BufTy).Contents (Elt F) → (⟨S_, .f32⟩ : BufTy).Contents (Elt F) → (⟨S8x2048, .f32⟩ : BufTy).Contents (Elt F)),
  StableHlo.nullary main_cst_1 (constant S_ .f32 0xFF800000#32),
  StableHlo.unary main_cst_1 main_v8 (broadcastInDim S8x2048 ![] bcast_S_S8x2048 : (⟨S_, .f32⟩ : BufTy).Contents (Elt F) → (⟨S8x2048, .f32⟩ : BufTy).Contents (Elt F)),
  StableHlo.binary main_v8 main_v7 main_v9 (maximumf : (⟨S8x2048, .f32⟩ : BufTy).Contents (Elt F) → (⟨S8x2048, .f32⟩ : BufTy).Contents (Elt F) → (⟨S8x2048, .f32⟩ : BufTy).Contents (Elt F)),
  StableHlo.unary main_v9 main_v10 (broadcastInDim S8x2048x1 ![0, 1] bcast_S8x2048_S8x2048x1_0_1 : (⟨S8x2048, .f32⟩ : BufTy).Contents (Elt F) → (⟨S8x2048x1, .f32⟩ : BufTy).Contents (Elt F)),
  StableHlo.unary main_v10 main_v11 (broadcastInDim S8x2048x1024 ![0, 1, 2] bcast_S8x2048x1_S8x2048x1024_0_1_2 : (⟨S8x2048x1, .f32⟩ : BufTy).Contents (Elt F) → (⟨S8x2048x1024, .f32⟩ : BufTy).Contents (Elt F)),
  StableHlo.binary main_v6 main_v11 main_v12 (subf : (⟨S8x2048x1024, .f32⟩ : BufTy).Contents (Elt F) → (⟨S8x2048x1024, .f32⟩ : BufTy).Contents (Elt F) → (⟨S8x2048x1024, .f32⟩ : BufTy).Contents (Elt F)),
  StableHlo.unary main_v12 main_v13 (Host.exp : (⟨S8x2048x1024, .f32⟩ : BufTy).Contents (Elt F) → (⟨S8x2048x1024, .f32⟩ : BufTy).Contents (Elt F)),
  StableHlo.nullary main_cst_2 (constant S_ .f32 0x00000000#32),
  StableHlo.binary main_v13 main_cst_2 main_v14 ((fun x v => Host.reduceAdd x v reducesTo_S8x2048x1024_S8x2048_d2 h_S_) : (⟨S8x2048x1024, .f32⟩ : BufTy).Contents (Elt F) → (⟨S_, .f32⟩ : BufTy).Contents (Elt F) → (⟨S8x2048, .f32⟩ : BufTy).Contents (Elt F)),
  StableHlo.unary main_v14 main_v15 (broadcastInDim S8x2048x1 ![0, 1] bcast_S8x2048_S8x2048x1_0_1 : (⟨S8x2048, .f32⟩ : BufTy).Contents (Elt F) → (⟨S8x2048x1, .f32⟩ : BufTy).Contents (Elt F)),
  StableHlo.unary main_v15 main_v16 (broadcastInDim S8x2048x1024 ![0, 1, 2] bcast_S8x2048x1_S8x2048x1024_0_1_2 : (⟨S8x2048x1, .f32⟩ : BufTy).Contents (Elt F) → (⟨S8x2048x1024, .f32⟩ : BufTy).Contents (Elt F)),
  StableHlo.binary main_v13 main_v16 main_v17 (Host.divf : (⟨S8x2048x1024, .f32⟩ : BufTy).Contents (Elt F) → (⟨S8x2048x1024, .f32⟩ : BufTy).Contents (Elt F) → (⟨S8x2048x1024, .f32⟩ : BufTy).Contents (Elt F))]

/-- The lines from the probabilities to the straight-through one-hot mask, flattened to one row per batch. -/
def maskOps : List (HloOp τ sig (Elt F)) := [
  StableHlo.TRef.nullary main_call0.v0 (iotaInDim S8x2048x1024 32 2),
  StableHlo.TRef.nullary main_call0.cst (constant S_ .f32 0xFF800000#32),
  StableHlo.TRef.nullary main_call0.c (constantI S_ 32 0#32),
  StableHlo.TRef.quaternary (.of main_v17 : StableHlo.TRef sig ⟨S8x2048x1024, .f32⟩) main_call0.v0 main_call0.cst main_call0.c main_call0.v1_0 (fun x y u v j => (Host.argReduce reducer_argmax_f32_i32 x y u v reducesTo_S8x2048x1024_S8x2048_d2 h_S_ j).1),
  StableHlo.TRef.quaternary (.of main_v17 : StableHlo.TRef sig ⟨S8x2048x1024, .f32⟩) main_call0.v0 main_call0.cst main_call0.c main_call0.v1_1 (fun x y u v j => (Host.argReduce reducer_argmax_f32_i32 x y u v reducesTo_S8x2048x1024_S8x2048_d2 h_S_ j).2),
  StableHlo.TRef.unary (.of main_v18 : StableHlo.TRef sig ⟨S8x2048, .i32⟩) main_call1.v0 (broadcastInDim S8x2048x1 ![0, 1] bcast_S8x2048_S8x2048x1_0_1),
  StableHlo.TRef.nullary main_call1.v1 (iotaInDim S1x1x1024 32 2),
  StableHlo.TRef.unary main_call1.v0 main_call1.v2 (broadcastInDim S8x2048x1024 ![0, 1, 2] bcast_S8x2048x1_S8x2048x1024_0_1_2),
  StableHlo.TRef.unary main_call1.v1 main_call1.v3 (broadcastInDim S8x2048x1024 ![0, 1, 2] bcast_S1x1x1024_S8x2048x1024_0_1_2),
  StableHlo.TRef.binary main_call1.v2 main_call1.v3 main_call1.v4 (cmpi .eq),
  StableHlo.TRef.unary main_call1.v4 main_call1.v5 (uitofp .f32),
  StableHlo.binary main_v19 main_v17 main_v20 (addf : (⟨S8x2048x1024, .f32⟩ : BufTy).Contents (Elt F) → (⟨S8x2048x1024, .f32⟩ : BufTy).Contents (Elt F) → (⟨S8x2048x1024, .f32⟩ : BufTy).Contents (Elt F)),
  StableHlo.binary main_v20 main_v17 main_v21 (subf : (⟨S8x2048x1024, .f32⟩ : BufTy).Contents (Elt F) → (⟨S8x2048x1024, .f32⟩ : BufTy).Contents (Elt F) → (⟨S8x2048x1024, .f32⟩ : BufTy).Contents (Elt F)),
  StableHlo.reshape main_v21 main_v22 (rfl : (.f32 : EltTy) = .f32) shapeCasts_S8x2048x1024_S8x2097152]

/-- The lines that look for the smallest entries of each row and set them to 0. -/
def dropOps : List (HloOp τ sig (Elt F)) := [
  StableHlo.unary main_v22 main_v23 (Host.negf : (⟨S8x2097152, .f32⟩ : BufTy).Contents (Elt F) → (⟨S8x2097152, .f32⟩ : BufTy).Contents (Elt F)),
  StableHlo.unary main_v23 main_values ((fun x => (Host.topK S8x209715 1 (FloatOps.cmpfTotal .gt) x sliceFits_S8x2097152_S8x209715).1) : (⟨S8x2097152, .f32⟩ : BufTy).Contents (Elt F) → (⟨S8x209715, .f32⟩ : BufTy).Contents (Elt F)),
  StableHlo.unary main_v23 main_indices ((fun x => (Host.topK S8x209715 1 (FloatOps.cmpfTotal .gt) x sliceFits_S8x2097152_S8x209715).2) : (⟨S8x2097152, .f32⟩ : BufTy).Contents (Elt F) → (⟨S8x209715, .i32⟩ : BufTy).Contents (Elt F)),
  StableHlo.nullary main_v24 (iotaInDim S8 32 0),
  StableHlo.unary main_v24 main_v25 (broadcastInDim S8x1 ![0] bcast_S8_S8x1_0 : (⟨S8, .i32⟩ : BufTy).Contents (Elt F) → (⟨S8x1, .i32⟩ : BufTy).Contents (Elt F)),
  StableHlo.nullary main_c (constantI S_ 32 0#32),
  StableHlo.unary main_c main_v26 (broadcastInDim S8x1 ![] bcast_S_S8x1 : (⟨S_, .i32⟩ : BufTy).Contents (Elt F) → (⟨S8x1, .i32⟩ : BufTy).Contents (Elt F)),
  StableHlo.binary main_v25 main_v26 main_v27 (cmpi .slt : (⟨S8x1, .i32⟩ : BufTy).Contents (Elt F) → (⟨S8x1, .i32⟩ : BufTy).Contents (Elt F) → (⟨S8x1, .i1⟩ : BufTy).Contents (Elt F)),
  StableHlo.nullary main_c_3 (constantI S_ 32 8#32),
  StableHlo.unary main_c_3 main_v28 (broadcastInDim S8x1 ![] bcast_S_S8x1 : (⟨S_, .i32⟩ : BufTy).Contents (Elt F) → (⟨S8x1, .i32⟩ : BufTy).Contents (Elt F)),
  StableHlo.binary main_v25 main_v28 main_v29 (addi : (⟨S8x1, .i32⟩ : BufTy).Contents (Elt F) → (⟨S8x1, .i32⟩ : BufTy).Contents (Elt F) → (⟨S8x1, .i32⟩ : BufTy).Contents (Elt F)),
  StableHlo.ternary main_v27 main_v29 main_v25 main_v30 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F)),
  StableHlo.nullary main_c_4 (constantI S_ 32 0#32),
  StableHlo.unary main_c_4 main_v31 (broadcastInDim S8x209715 ![] bcast_S_S8x209715 : (⟨S_, .i32⟩ : BufTy).Contents (Elt F) → (⟨S8x209715, .i32⟩ : BufTy).Contents (Elt F)),
  StableHlo.binary main_indices main_v31 main_v32 (cmpi .slt : (⟨S8x209715, .i32⟩ : BufTy).Contents (Elt F) → (⟨S8x209715, .i32⟩ : BufTy).Contents (Elt F) → (⟨S8x209715, .i1⟩ : BufTy).Contents (Elt F)),
  StableHlo.nullary main_c_5 (constantI S_ 32 2097152#32),
  StableHlo.unary main_c_5 main_v33 (broadcastInDim S8x209715 ![] bcast_S_S8x209715 : (⟨S_, .i32⟩ : BufTy).Contents (Elt F) → (⟨S8x209715, .i32⟩ : BufTy).Contents (Elt F)),
  StableHlo.binary main_indices main_v33 main_v34 (addi : (⟨S8x209715, .i32⟩ : BufTy).Contents (Elt F) → (⟨S8x209715, .i32⟩ : BufTy).Contents (Elt F) → (⟨S8x209715, .i32⟩ : BufTy).Contents (Elt F)),
  StableHlo.ternary main_v32 main_v34 main_indices main_v35 (select : (⟨S8x209715, .i1⟩ : BufTy).Contents (Elt F) → (⟨S8x209715, .i32⟩ : BufTy).Contents (Elt F) → (⟨S8x209715, .i32⟩ : BufTy).Contents (Elt F) → (⟨S8x209715, .i32⟩ : BufTy).Contents (Elt F)),
  StableHlo.unary main_v30 main_v36 (broadcastInDim S8x209715 ![0, 1] bcast_S8x1_S8x209715_0_1 : (⟨S8x1, .i32⟩ : BufTy).Contents (Elt F) → (⟨S8x209715, .i32⟩ : BufTy).Contents (Elt F)),
  StableHlo.unary main_v36 main_v37 (broadcastInDim S8x209715x1 ![0, 1] bcast_S8x209715_S8x209715x1_0_1 : (⟨S8x209715, .i32⟩ : BufTy).Contents (Elt F) → (⟨S8x209715x1, .i32⟩ : BufTy).Contents (Elt F)),
  StableHlo.unary main_v35 main_v38 (broadcastInDim S8x209715x1 ![0, 1] bcast_S8x209715_S8x209715x1_0_1 : (⟨S8x209715, .i32⟩ : BufTy).Contents (Elt F) → (⟨S8x209715x1, .i32⟩ : BufTy).Contents (Elt F)),
  StableHlo.binary main_v37 main_v38 main_v39 (pairUp (F := F) : (⟨S8x209715x1, .i32⟩ : BufTy).Contents (Elt F) → (⟨S8x209715x1, .i32⟩ : BufTy).Contents (Elt F) → (⟨S8x209715x2, .i32⟩ : BufTy).Contents (Elt F)),
  StableHlo.nullary main_cst_6 (constant S_ .f32 0x00000000#32),
  StableHlo.unary main_cst_6 main_v40 (broadcastInDim S8x209715 ![] bcast_S_S8x209715 : (⟨S_, .f32⟩ : BufTy).Contents (Elt F) → (⟨S8x209715, .f32⟩ : BufTy).Contents (Elt F)),
  StableHlo.ternary main_v22 main_v39 main_v40 main_v41 ((fun x i u => Host.scatter scatter_S8x2097152_S8x209715x2_S8x209715_n_01_01_2 (fun _ b => b) x i u) : (⟨S8x2097152, .f32⟩ : BufTy).Contents (Elt F) → (⟨S8x209715x2, .i32⟩ : BufTy).Contents (Elt F) → (⟨S8x209715, .f32⟩ : BufTy).Contents (Elt F) → (⟨S8x2097152, .f32⟩ : BufTy).Contents (Elt F)),
  StableHlo.reshape main_v41 main_v42 (rfl : (.f32 : EltTy) = .f32) shapeCasts_S8x2097152_S8x2048x1024]

/-- All the lines, in order. -/
def allOps : List (HloOp τ sig (Elt F)) := softmaxOps ++ (maskOps ++ dropOps)

/-- @main is those lines. -/
theorem main_eq (c : Dev nD) : main (F := F) c = seq allOps := rfl

/-- The softmax lines touch only the program's own buffers. -/
theorem softmaxOps_sub : (softmaxOps (F := F)).Forall fun op => op.bufs ⊆ tcRefs τ sig :=
  ⟨unary_bufs_sub .., unary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

/-- So do the mask lines, -/
theorem maskOps_sub : (maskOps (F := F)).Forall fun op => op.bufs ⊆ tcRefs τ sig :=
  ⟨nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., binary_bufs_sub .., binary_bufs_sub .., reshape_bufs_sub ..⟩

/-- the lines of the last step, -/
theorem dropOps_sub : (dropOps (F := F)).Forall fun op => op.bufs ⊆ tcRefs τ sig :=
  ⟨unary_bufs_sub .., unary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., nullary_bufs_sub .., unary_bufs_sub .., ternary_bufs_sub .., reshape_bufs_sub ..⟩

/-- and so all the lines together. -/
theorem allOps_sub : (allOps (F := F)).Forall fun op => op.bufs ⊆ tcRefs τ sig := by
  rw [List.forall_iff_forall_mem]
  intro op h
  rcases List.mem_append.1 h with h | h
  · exact List.forall_iff_forall_mem.1 softmaxOps_sub op h
  rcases List.mem_append.1 h with h | h
  · exact List.forall_iff_forall_mem.1 maskOps_sub op h
  · exact List.forall_iff_forall_mem.1 dropOps_sub op h

/-- No line allocates. -/
theorem allOps_fresh : ∀ op ∈ allOps (F := F), op.fresh = ∅ := by
  have h1 : (softmaxOps (F := F)).Forall fun op => op.fresh = ∅ :=
    ⟨rfl, rfl, rfl, rfl, rfl, rfl, rfl, rfl, rfl, rfl, rfl, rfl, rfl, rfl, rfl, rfl, rfl, rfl, rfl, rfl, rfl, rfl⟩
  have h2 : (maskOps (F := F)).Forall fun op => op.fresh = ∅ :=
    ⟨rfl, rfl, rfl, rfl, rfl, rfl, rfl, rfl, rfl, rfl, rfl, rfl, rfl, rfl⟩
  have h3 : (dropOps (F := F)).Forall fun op => op.fresh = ∅ :=
    ⟨rfl, rfl, rfl, rfl, rfl, rfl, rfl, rfl, rfl, rfl, rfl, rfl, rfl, rfl, rfl, rfl, rfl, rfl, rfl, rfl, rfl, rfl, rfl, rfl, rfl, rfl, rfl⟩
  intro op h
  rcases List.mem_append.1 h with h | h
  · exact List.forall_iff_forall_mem.1 h1 op h
  rcases List.mem_append.1 h with h | h
  · exact List.forall_iff_forall_mem.1 h2 op h
  · exact List.forall_iff_forall_mem.1 h3 op h

/-- Running two lists one after the other is running their concatenation. -/
theorem after_two (A B : List (HloOp τ sig (Elt F))) (V : Valuation τ sig (Elt F)) : after (A ++ B) V = after B (after A V) := by
  induction A generalizing V with
  | nil => rfl
  | cons a A ih => exact ih _

/-! ## What each window leaves -/

/-- The softmax lines leave the probabilities of the two arguments. -/
theorem softmax_v17 (V : Valuation τ sig (Elt F)) :
    after softmaxOps V (Proc.devRef .tc main_v17) = probs (V (Proc.devRef .tc main_arg0)) (V (Proc.devRef .tc main_arg1)) := by
  unfold softmaxOps
  after_reads_simp
  rfl

/-- The mask lines leave the flattened mask of the probabilities they find. -/
theorem mask_v22 (V : Valuation τ sig (Elt F)) :
    after maskOps V (Proc.devRef .tc main_v22) = flatMask (V (Proc.devRef .tc main_v17)) := by
  unfold maskOps
  after_reads_simp
  simp -implicitDefEqProofs only [TRef.toBuf, TRef.ofBuf, cast_cast, cast_eq]
  unfold flatMask mask oneHot best
  rfl

/-- The last lines leave the flattened mask they find, with 0 written at its smallest entries. -/
theorem drop_v42 (V : Valuation τ sig (Elt F)) :
    after dropOps V (Proc.devRef .tc main_v42) = dropped (V (Proc.devRef .tc main_v22)) := by
  unfold dropOps
  after_reads_simp
  rfl

/-- No line writes the first argument. -/
theorem all_arg0 (V : Valuation τ sig (Elt F)) : after allOps V (Proc.devRef .tc main_arg0) = V (Proc.devRef .tc main_arg0) := by
  unfold allOps softmaxOps maskOps dropOps
  simp only [List.cons_append, List.nil_append]
  after_reads_simp

/-- No line writes the second argument. -/
theorem all_arg1 (V : Valuation τ sig (Elt F)) : after allOps V (Proc.devRef .tc main_arg1) = V (Proc.devRef .tc main_arg1) := by
  unfold allOps softmaxOps maskOps dropOps
  simp only [List.cons_append, List.nil_append]
  after_reads_simp

/-- The result array after all the lines. -/
theorem all_v42 (V : Valuation τ sig (Elt F)) :
    after allOps V (Proc.devRef .tc main_v42)
      = dropped (flatMask (probs (V (Proc.devRef .tc main_arg0)) (V (Proc.devRef .tc main_arg1)))) := by
  unfold allOps
  rw [after_two, after_two, drop_v42, mask_v22, softmax_v17]

/-- No buffer of the program is scoped. -/
theorem no_scoped_refs : (Finset.univ.filter fun b : Ref sig .tc => b.isScoped) = ∅ := by decide

/-- No semaphore of the program is scoped. -/
theorem no_scoped_sems : (Finset.univ.filter fun sm : SemLoc sig => sm.isScoped .tc) = ∅ := by decide

/-- Every run of the reference ends with the result array at the composed term of its arguments, and the arguments as they were. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v42)
          = dropped (flatMask (probs (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun _ h c => ⟨(h c main_v42).trans (all_v42 _), (h c main_arg0).trans (all_arg0 _), (h c main_arg1).trans (all_arg1 _)⟩)
    (run_seq no_scoped_refs no_scoped_sems defs main (fun _ => allOps) main_eq (fun _ => allOps_sub) m ρ (fun _ => allOps_fresh))

end Cert.ReferenceIdeal.Hand

end
-- ==== Proof.FirstMax.lean ====
/-
  The first greatest entry of a row, and what the two ways of looking for it return.

  `FirstMax r k` says that `r k` is the greatest of the row's numbers and that no earlier entry equals it. Such a `k`
  exists and is unique, and depends only on the order of the entries. Folding `max` over the row gives `r k`; folding
  the signed minimum over the positions at which the row equals its maximum gives `k`.
-/
module

public import Idealize.ShloMosaic.PureOps.Ideal.Laws
public import Idealize.ShloMosaic.Lib.SortNet.Extract
public import Mathlib.Data.EReal.Basic
public import Mathlib.Data.Finset.Fold
public import Mathlib.Data.Finset.Max

@[expose] public section

noncomputable section

namespace Cert.Row

open Idealize.ShloMosaic

/-- `r k` is the row's greatest entry, and the first one of that value. -/
def FirstMax {n : Nat} (r : Fin n → ℝ) (k : Fin n) : Prop := (∀ j, r j ≤ r k) ∧ ∀ j, r j = r k → k ≤ j

/-- A row that is not empty has a first greatest entry. -/
theorem FirstMax.exists {n : Nat} (hn : 0 < n) (r : Fin n → ℝ) : ∃ k, FirstMax r k := by
  haveI : Nonempty (Fin n) := ⟨⟨0, hn⟩⟩
  obtain ⟨m, -, hm⟩ := Finset.exists_max_image Finset.univ r Finset.univ_nonempty
  have hne : (Finset.univ.filter fun j => r j = r m).Nonempty := ⟨m, by simp⟩
  obtain ⟨k, hk, hkm⟩ := Finset.exists_min_image _ id hne
  have hkr : r k = r m := (Finset.mem_filter.1 hk).2
  exact ⟨k, fun j => hkr ▸ hm j (Finset.mem_univ j), fun j hj => hkm j (Finset.mem_filter.2 ⟨Finset.mem_univ j, hj.trans hkr⟩)⟩

/-- There is only one. -/
theorem FirstMax.unique {n : Nat} {r : Fin n → ℝ} {i k : Fin n} (hi : FirstMax r i) (hk : FirstMax r k) : i = k := by
  have e : r i = r k := le_antisymm (hk.1 i) (hi.1 k)
  exact le_antisymm (hi.2 k e.symm) (hk.2 i e)

/-- A row in the same order has the same first greatest entry. -/
theorem FirstMax.transfer {n : Nat} {r y : Fin n → ℝ} (h : ∀ i j, y i ≤ y j ↔ r i ≤ r j) {k : Fin n} (hk : FirstMax r k) :
    FirstMax y k :=
  ⟨fun j => (h j k).2 (hk.1 j), fun j e => hk.2 j (le_antisymm ((h j k).1 e.le) ((h k j).1 e.ge))⟩

/-- The fold of `max` from minus infinity over a row of reals is its greatest entry. -/
theorem FirstMax.fold_max {n : Nat} {r : Fin n → ℝ} {k : Fin n} (hk : FirstMax r k) :
    (Finset.univ : Finset (Fin n)).fold max (⊥ : EReal) (fun j => (r j : EReal)) = (r k : EReal) := by
  apply le_antisymm
  · exact (Finset.fold_max_le _).2 ⟨bot_le, fun j _ => EReal.coe_le_coe_iff.2 (hk.1 j)⟩
  · exact (Finset.le_fold_max _).2 (.inr ⟨k, Finset.mem_univ k, le_rfl⟩)

/-- The fold of the signed minimum of words is a word that occurs among them and is at most the start and each of them. -/
theorem fold_minsi_eq {ι : Type} (s : Finset ι) (b x : BitVec 32) (f : ι → BitVec 32) (i : ι) (hi : i ∈ s) (hx : f i = x)
    (hb : x.toInt ≤ b.toInt) (hf : ∀ j ∈ s, x.toInt ≤ (f j).toInt) : s.fold IntOp.minsi b f = x := by
  apply BitVec.eq_of_toInt_eq
  rw [← Finset.fold_hom (op' := min) (m := BitVec.toInt) (fun a b => SortNet.toInt_minsi a b)]
  apply le_antisymm
  · exact (Finset.fold_min_le _).2 (.inr ⟨i, hi, by rw [hx]⟩)
  · exact (Finset.le_fold_min _).2 ⟨hb, fun j hj => hf j hj⟩

/-- A small number's word, read signed, is the number. -/
theorem toInt_ofNat {n : Nat} (h : n < 2147483648) : (BitVec.ofNat 32 n).toInt = n := by
  rw [BitVec.toInt_eq_toNat_of_lt (by rw [BitVec.toNat_ofNat]; omega), BitVec.toNat_ofNat]
  omega

/-- The fold of the signed minimum over the positions at which a row equals its maximum, the other positions read as
    1024, is the row's first greatest position. -/
theorem FirstMax.fold_minsi {r : Fin 1024 → ℝ} {k : Fin 1024} (hk : FirstMax r k) :
    (Finset.univ : Finset (Fin 1024)).fold IntOp.minsi 2147483647#32
      (fun j => if (r j : EReal) = (r k : EReal) then BitVec.ofNat 32 j.val else 1024#32) = BitVec.ofNat 32 k.val := by
  have hkv : (BitVec.ofNat 32 k.val).toInt = k.val := toInt_ofNat (by omega)
  refine fold_minsi_eq _ _ _ _ k (Finset.mem_univ k) (if_pos rfl) ?_ fun j _ => ?_
  · rw [hkv]; have : (2147483647#32).toInt = 2147483647 := by decide
    omega
  · rw [hkv]
    split
    · rename_i e
      have := hk.2 j (EReal.coe_eq_coe_iff.1 e)
      rw [toInt_ofNat (by omega)]
      exact_mod_cast this
    · have : (1024#32).toInt = 1024 := by decide
      omega

/-- Two positions' words compare equal exactly when the positions are. -/
theorem cmpi_position (i j : Fin 1024) :
    IntOp.cmpi .eq (BitVec.ofNat 32 i.val) (BitVec.ofNat 32 j.val) = if i = j then 1#1 else 0#1 := by
  have e : (BitVec.ofNat 32 i.val = BitVec.ofNat 32 j.val) ↔ i = j := by
    constructor
    · intro h
      have := congrArg BitVec.toNat h
      rw [BitVec.toNat_ofNat, BitVec.toNat_ofNat] at this
      exact Fin.ext (by omega)
    · rintro rfl
      rfl
  by_cases h : i = j
  · subst h
    simp [IntOp.cmpi]
  · rw [if_neg h]
    simp [IntOp.cmpi, beq_eq_false_iff_ne.2 fun q => h (e.1 q)]

end Cert.Row

end

end
-- ==== Proof.RefArgmax.lean ====
/-
  The reference's arg-max: the position its two-operand reduction returns for a row of reals.

  The reduction keeps a pair (value, position) and replaces it by a pair that is `Better`: a greater value, or an equal
  value at a position that is not greater. Whatever the order in which a row's pairs are met, the pair kept at the end
  is one of them and is better than every one of them, so its position is the row's first greatest one.
-/
module

public import proofs.«01_k».proof.Proof.RefRun
public import proofs.«01_k».proof.Proof.FirstMax
public import Idealize.ShloMosaic.PureOps.Ideal.Laws

@[expose] public section

noncomputable section

namespace Cert.ReferenceIdeal.Hand

open Idealize.ShloMosaic Cert.ReferenceIdeal Cert.ReferenceIdeal.Gen Cert.Row

/-- The first pair is at least as good as the second: a greater value, or the same at a position that is not greater. -/
def Better (p q : EReal × BitVec 32) : Prop := q.1 < p.1 ∨ (q.1 = p.1 ∧ p.2.toInt ≤ q.2.toInt)

/-- Every pair is at least as good as itself. -/
theorem Better.refl (p : EReal × BitVec 32) : Better p p := .inr ⟨rfl, le_rfl⟩

/-- At least as good is transitive. -/
theorem Better.trans {p q r : EReal × BitVec 32} (h : Better p q) (h' : Better q r) : Better p r := by
  rcases h with h | ⟨h, k⟩ <;> rcases h' with h' | ⟨h', k'⟩
  · exact .inl (h'.trans h)
  · exact .inl (h'.trans_lt h)
  · exact .inl (h'.trans_eq h)
  · exact .inr ⟨h'.trans h, k.trans k'⟩

/-- One step of the reduction returns the first pair or the second, and what it returns is better than both. -/
theorem reducer_spec (p q : EReal × BitVec 32) :
    (reducer_argmax_f32_i32 (F := Ideal) p q = p ∨ reducer_argmax_f32_i32 (F := Ideal) p q = q)
      ∧ Better (reducer_argmax_f32_i32 (F := Ideal) p q) p ∧ Better (reducer_argmax_f32_i32 (F := Ideal) p q) q := by
  obtain ⟨a, i⟩ := p
  obtain ⟨b, j⟩ := q
  have step : reducer_argmax_f32_i32 (F := Ideal) (a, i) (b, j)
      = (if b < a then a else b, if b < a ∨ (a = b ∧ i.toInt < j.toInt) then i else j) := by
    unfold reducer_argmax_f32_i32
    by_cases h1 : b < a <;> by_cases h2 : a = b <;> by_cases h3 : i.toInt < j.toInt <;>
      simp [Ideal.cmpf_def, Ideal.cmp, IntOp.ori, IntOp.andi, IntOp.cmpi, Scalar.select, BitVec.slt, h1, h2, h3]
  rw [step]
  rcases lt_trichotomy a b with h | h | h
  · have h1 : ¬ b < a := not_lt.2 h.le
    simp only [h1, h.ne, false_and, or_false, if_false]
    exact ⟨.inr trivial, .inl h, Better.refl _⟩
  · subst h
    by_cases h3 : i.toInt < j.toInt
    · simp only [lt_irrefl, h3, and_self, or_true, if_true, if_false]
      exact ⟨.inl trivial, Better.refl _, .inr ⟨rfl, h3.le⟩⟩
    · simp only [lt_irrefl, h3, and_false, or_false, if_false]
      exact ⟨.inr trivial, .inr ⟨rfl, not_lt.1 h3⟩, Better.refl _⟩
  · simp only [h, true_or, if_true]
    exact ⟨trivial, Better.refl _, .inl h⟩

/-- The fold of the reduction over a list ends at the start or at one of the list's pairs, better than all of them. -/
theorem fold_spec : ∀ (l : List (EReal × BitVec 32)) (p : EReal × BitVec 32),
    (l.foldl (reducer_argmax_f32_i32 (F := Ideal)) p = p ∨ l.foldl (reducer_argmax_f32_i32 (F := Ideal)) p ∈ l)
      ∧ Better (l.foldl (reducer_argmax_f32_i32 (F := Ideal)) p) p
      ∧ ∀ q ∈ l, Better (l.foldl (reducer_argmax_f32_i32 (F := Ideal)) p) q
  | [], p => ⟨.inl rfl, Better.refl p, fun q hq => absurd hq List.not_mem_nil⟩
  | a :: l, p => by
    obtain ⟨hm, hb, hl⟩ := fold_spec l (reducer_argmax_f32_i32 (F := Ideal) p a)
    obtain ⟨sm, sp, sa⟩ := reducer_spec p a
    rw [List.foldl_cons]
    refine ⟨?_, hb.trans sp, fun q hq => ?_⟩
    · rcases hm with e | e
      · rcases sm with s | s
        · exact .inl (e.trans s)
        · exact .inr (by rw [e, s]; exact List.mem_cons_self)
      · exact .inr (List.mem_cons_of_mem _ e)
    · rcases List.mem_cons.1 hq with rfl | hq
      · exact hb.trans sa
      · exact hl q hq

/-- A fold over the pairs (entry, position) of a row of reals, met in any order, ends at the row's first greatest
    position. -/
theorem fold_position {r : Fin 1024 → ℝ} {k : Fin 1024} (hk : FirstMax r k) (l : List (EReal × BitVec 32)) (w : BitVec 32)
    (hl : ∀ p, p ∈ l ↔ ∃ f : Fin 1024, p = ((r f : EReal), BitVec.ofNat 32 f.val)) :
    (l.foldl (reducer_argmax_f32_i32 (F := Ideal)) ((⊥ : EReal), w)).2 = BitVec.ofNat 32 k.val := by
  obtain ⟨hm, -, hb⟩ := fold_spec l ((⊥ : EReal), w)
  have hk' := hb _ ((hl _).2 ⟨k, rfl⟩)
  have hmem : l.foldl (reducer_argmax_f32_i32 (F := Ideal)) ((⊥ : EReal), w) ∈ l := by
    rcases hm with e | e
    · rw [e] at hk'
      rcases hk' with h | ⟨h, -⟩
      · exact absurd h not_lt_bot
      · exact absurd h (EReal.coe_ne_bot _)
    · exact e
  obtain ⟨i, hi⟩ := (hl _).1 hmem
  rw [hi] at hb ⊢
  have hfirst : FirstMax r i := by
    have key : ∀ j : Fin 1024, r j < r i ∨ (r j = r i ∧ i ≤ j) := fun j => by
      rcases hb _ ((hl _).2 ⟨j, rfl⟩) with h | ⟨h, h'⟩
      · exact .inl (EReal.coe_lt_coe_iff.1 h)
      · refine .inr ⟨EReal.coe_eq_coe_iff.1 h, ?_⟩
        rw [toInt_ofNat (by omega), toInt_ofNat (by omega)] at h'
        exact_mod_cast h'
    refine ⟨fun j => ?_, fun j e => ?_⟩
    · rcases key j with h | h
      · exact h.le
      · exact h.1.le
    · rcases key j with h | h
      · exact absurd e h.ne
      · exact h.2
  rw [hfirst.unique hk]

end Cert.ReferenceIdeal.Hand

end

end
-- ==== Proof.Scores.lean ====
/-
  The score of one entry, and the softmax of one row of scores, over the extended reals.

  A logit that is a real number and a draw strictly between 0 and 1 give the real score `gumbel x y`: both programs'
  spellings of it are that number. On a row of real scores each softmax entry is a real number, and the softmax keeps
  the order of the scores, so that its first greatest entry is the scores' own.
-/
module

public import proofs.«01_k».proof.Proof.FirstMax
public import Mathlib.Analysis.SpecialFunctions.Log.Basic

@[expose] public section

noncomputable section

namespace Cert.Row

open Idealize.ShloMosaic

/-- A logit and a draw at which the score is a real number: the logit is real and the draw lies between 0 and 1. -/
def Fine (x y : EReal) : Prop := ∃ a b : ℝ, x = (a : EReal) ∧ y = (b : EReal) ∧ 0 < b ∧ b < 1

/-- The score of a logit and a draw: the logit less the logarithm of minus the draw's logarithm. -/
def gumbel (x y : EReal) : ℝ := x.toReal - Real.log (-Real.log y.toReal)

/-- The logarithm of a positive real is real. -/
theorem log_pos_coe {r : ℝ} (h : 0 < r) : Ideal.log (r : EReal) = ((Real.log r : ℝ) : EReal) := by
  rw [Ideal.log_coe, if_neg (not_le.2 h)]

/-- The score as the kernel writes it: the negation is a subtraction from 0. -/
theorem kernel_score {x y : EReal} (h : Fine x y) : x - Ideal.log (0 - Ideal.log y) = (gumbel x y : EReal) := by
  obtain ⟨a, b, rfl, rfl, h0, h1⟩ := h
  have hn : 0 < -Real.log b := by have := Real.log_neg h0 h1; linarith
  rw [log_pos_coe h0, show (0 : EReal) - ((Real.log b : ℝ) : EReal) = ((-Real.log b : ℝ) : EReal) from by
    rw [← EReal.coe_zero, ← EReal.coe_sub, zero_sub], log_pos_coe hn, ← EReal.coe_sub]
  simp only [gumbel, EReal.toReal_coe]

/-- The score as the reference writes it: a sum with the noise, divided by the temperature 1. -/
theorem reference_score {x y : EReal} (h : Fine x y) :
    Ideal.div (x + -Ideal.log (-Ideal.log y)) 1 = (gumbel x y : EReal) := by
  obtain ⟨a, b, rfl, rfl, h0, h1⟩ := h
  have hn : 0 < -Real.log b := by have := Real.log_neg h0 h1; linarith
  rw [log_pos_coe h0, ← EReal.coe_neg, log_pos_coe hn, ← EReal.coe_neg, ← EReal.coe_add, ← EReal.coe_one,
    Ideal.div_coe one_ne_zero, ← EReal.coe_mul]
  simp only [gumbel, EReal.toReal_coe, div_one, mul_one, sub_eq_add_neg]

/-- The softmax of a row of reals, entry `j`, the exponents taken from entry `k`. -/
def soft {n : Nat} (r : Fin n → ℝ) (k j : Fin n) : ℝ := Real.exp (r j - r k) / ∑ i, Real.exp (r i - r k)

/-- The sum below the line is positive. -/
theorem soft_sum_pos {n : Nat} (r : Fin n → ℝ) (k : Fin n) : 0 < ∑ i, Real.exp (r i - r k) := by
  refine lt_of_lt_of_le (Real.exp_pos (r k - r k)) ?_
  exact Finset.single_le_sum (f := fun i => Real.exp (r i - r k)) (fun i _ => (Real.exp_pos _).le) (Finset.mem_univ k)

/-- The softmax keeps the order of the row. -/
theorem soft_le_iff {n : Nat} (r : Fin n → ℝ) (k i j : Fin n) : soft r k i ≤ soft r k j ↔ r i ≤ r j := by
  unfold soft
  rw [div_le_div_iff_of_pos_right (soft_sum_pos r k), Real.exp_le_exp]
  constructor <;> intro h <;> linarith

/-- A sum of reals read in the extended reals is the real sum. -/
theorem coe_sum {n : Nat} (f : Fin n → ℝ) : (∑ i, ((f i : ℝ) : EReal)) = ((∑ i, f i : ℝ) : EReal) :=
  (map_sum (⟨⟨Real.toEReal, EReal.coe_zero⟩, EReal.coe_add⟩ : ℝ →+ EReal) f Finset.univ).symm

/-- The softmax as the reference writes it — exponentials of the row less its maximum, over their sum — is real. -/
theorem soft_eq {n : Nat} {r : Fin n → ℝ} {k : Fin n} (hk : FirstMax r k) (j : Fin n) :
    Ideal.div
        (Ideal.exp ((r j : EReal) - max ⊥ ((Finset.univ : Finset (Fin n)).fold max (⊥ : EReal) fun i => (r i : EReal))))
        (∑ i, Ideal.exp ((r i : EReal) - max ⊥ ((Finset.univ : Finset (Fin n)).fold max (⊥ : EReal) fun i => (r i : EReal))))
      = (soft r k j : EReal) := by
  rw [hk.fold_max, max_eq_right bot_le]
  simp only [← EReal.coe_sub, Ideal.exp_coe]
  rw [coe_sum, Ideal.div_coe (soft_sum_pos r k).ne', ← EReal.coe_mul]
  unfold soft
  rw [mul_one_div]

end Cert.Row

end

end
-- ==== Proof.RefRow.lean ====
/-
  The reference's straight-through mask, entry by entry.

  On fine logits and draws (`Row.Fine`) every row of scores is a row of reals. Its softmax is a row of reals in the same
  order, the arg-max returns the first greatest position of that order, and the sum with the softmax less the softmax
  leaves the one-hot row: entry `f` is 1 at the first greatest score and 0 elsewhere (`mask_read`).
-/
module

public import proofs.«01_k».proof.Proof.RefArgmax
public import proofs.«01_k».proof.Proof.Scores
public import Idealize.ShloMosaic.Lib.Pointwise

@[expose] public section

noncomputable section

namespace Cert.ReferenceIdeal.Hand

open Idealize.ShloMosaic Cert.ReferenceIdeal Cert.ReferenceIdeal.Gen Cert.Row

/-- The last axis dropped, as the shape condition that names the inserted index. -/
theorem lastAxis : S8x2048x1024.Reduces [2] S8x2048 := by decide

/-- Entry `f` inserted into row `(b, s)`. -/
theorem lift_lastAxis (b : Fin 8) (s : Fin 2048) (f : Fin 1024) : lastAxis.lift (ix2 b s) f = ix3 b s f := by
  funext c
  apply Fin.ext
  fin_cases c <;> rfl

/-- The word of minus infinity. -/
theorem negInf : Ideal.ofBits .f32 0xFF800000#32 = ⊥ := by simp [Ideal.ofBits, Ideal.ieee]

/-- The row maximum is the fold of `max` over the row. -/
theorem rowMax_read (z : FVec Ideal S8x2048x1024 .f32) (b : Fin 8) (s : Fin 2048) :
    rowMax z (ix2 b s) = (Finset.univ : Finset (Fin 1024)).fold max (⊥ : EReal) fun f => z (ix3 b s f) := by
  unfold rowMax
  rw [Host.reduce_eq_fold_single FloatOps.maximumf z _ reducesTo_S8x2048x1024_S8x2048_d2 lastAxis h_S_ (ix2 b s)]
  have e : z ∘ lastAxis.lift (ix2 b s) = fun f : Fin 1024 => z (ix3 b s f) := funext fun f => congrArg z (lift_lastAxis b s f)
  have e0 : (constant S_ .f32 0xFF800000#32 : FVec Ideal S_ .f32) (Shape.Idx.first h_S_) = ⊥ := negInf
  rw [e, e0]
  rfl

/-- An exponential read at an entry, below any table. -/
theorem expoAt_read (z : FVec Ideal S8x2048x1024 .f32) (t : FVec Ideal S8x2048 .f32) (b : Fin 8) (s : Fin 2048) (f : Fin 1024) :
    expoAt z t (ix3 b s f) = Ideal.exp (z (ix3 b s f) - max (Ideal.ofBits .f32 0xFF800000#32) (t (ix2 b s))) := by
  pointwise [expoAt]

/-- An exponential read at an entry. -/
theorem expo_read (z : FVec Ideal S8x2048x1024 .f32) (b : Fin 8) (s : Fin 2048) (f : Fin 1024) :
    expo z (ix3 b s f)
      = Ideal.exp (z (ix3 b s f) - max ⊥ ((Finset.univ : Finset (Fin 1024)).fold max (⊥ : EReal) fun i => z (ix3 b s i))) := by
  unfold expo
  rw [expoAt_read, rowMax_read, negInf]

/-- A normalised entry read. -/
theorem normalised_read (e : FVec Ideal S8x2048x1024 .f32) (b : Fin 8) (s : Fin 2048) (f : Fin 1024) :
    normalised e (ix3 b s f) = Ideal.div (e (ix3 b s f)) (∑ i : Fin 1024, e (ix3 b s i)) := by
  pointwise [normalised]

/-- A score read. -/
theorem scores_read (l u : FVec Ideal S8x2048x1024 .f32) (b : Fin 8) (s : Fin 2048) (f : Fin 1024) :
    scores l u (ix3 b s f) = Ideal.div (l (ix3 b s f) + -Ideal.log (-Ideal.log (u (ix3 b s f)))) 1 := by
  pointwise [scores]

/-- The row of real scores. -/
def rowScores (l u : FVec Ideal S8x2048x1024 .f32) (b : Fin 8) (s : Fin 2048) (f : Fin 1024) : ℝ :=
  gumbel (l (ix3 b s f)) (u (ix3 b s f))

/-- The probabilities of a row are the softmax of its real scores. -/
theorem probs_read (l u : FVec Ideal S8x2048x1024 .f32) (h : ∀ i, Fine (l i) (u i)) (b : Fin 8) (s : Fin 2048)
    (k : Fin 1024) (hk : FirstMax (rowScores l u b s) k) (f : Fin 1024) :
    probs l u (ix3 b s f) = (soft (rowScores l u b s) k f : EReal) := by
  have hz : ∀ i, scores l u (ix3 b s i) = (rowScores l u b s i : EReal) := fun i =>
    (scores_read l u b s i).trans (reference_score (h _))
  unfold probs
  rw [normalised_read]
  simp only [expo_read, hz]
  exact soft_eq hk f

/-- The pairs the arg-max folds over at row `(b, s)`: the row's entries with their positions. -/
theorem mem_fiber (y : FVec Ideal S8x2048x1024 .f32) (b : Fin 8) (s : Fin 2048) (p : EReal × BitVec 32) :
    p ∈ Host.argReduceFiber (α := EReal) y (iotaInDim S8x2048x1024 32 2) reducesTo_S8x2048x1024_S8x2048_d2 (ix2 b s)
      ↔ ∃ f : Fin 1024, p = (y (ix3 b s f), BitVec.ofNat 32 f.val) := by
  unfold Host.argReduceFiber
  rw [List.mem_map]
  constructor
  · rintro ⟨n, hn, rfl⟩
    have hd : lastAxis.drop (S8x2048x1024.rowMajor.symm n) = ix2 b s := by
      have := (List.mem_filter.1 hn).2
      exact of_decide_eq_true this
    refine ⟨(S8x2048x1024.rowMajor.symm n) 2, ?_⟩
    have hi : S8x2048x1024.rowMajor.symm n = ix3 b s ((S8x2048x1024.rowMajor.symm n) 2) := by
      conv_lhs => rw [← lastAxis.lift_drop (S8x2048x1024.rowMajor.symm n), hd]
      exact lift_lastAxis b s _
    exact Prod.ext (congrArg y hi) rfl
  · rintro ⟨f, rfl⟩
    refine ⟨S8x2048x1024.rowMajor (ix3 b s f), List.mem_filter.2 ⟨List.mem_finRange _, ?_⟩, ?_⟩
    · apply decide_eq_true
      rw [Equiv.symm_apply_apply, ← lift_lastAxis b s f]
      exact lastAxis.drop_lift (ix2 b s) f
    · rw [Equiv.symm_apply_apply]
      rfl

/-- An arg-max reduction at an index is the fold of its step over the index's pairs, from the start's pair. -/
theorem argReduce_foldl {s t u : Shape} {axes : List (Fin s.rank)}
    (f : Ideal .f32 × BitVec 32 → Ideal .f32 × BitVec 32 → Ideal .f32 × BitVec 32) (x : FVec Ideal s .f32) (y : s.Idx → BitVec 32)
    (ix : u.Idx → Ideal .f32) (iy : u.Idx → BitVec 32) (h : s.ReducesTo axes t) (hu : 0 < u.numel) (j : t.Idx) (a : Ideal .f32)
    (w : BitVec 32) (ha : ix (Shape.Idx.first hu) = a) (hw : iy (Shape.Idx.first hu) = w) :
    Host.argReduce f x y ix iy h hu j = (Host.argReduceFiber x y h j).foldl f (a, w) := by
  rw [Ideal.argReduce_eq_reduce2, ← ha, ← hw]
  exact Host.reduce2_eq_foldl_fiber f x y ix iy h hu j

/-- The pair the arg-max keeps at each row. -/
def bestPair (y : FVec Ideal S8x2048x1024 .f32) : S8x2048.Idx → Ideal .f32 × BitVec 32 :=
  Host.argReduce (reducer_argmax_f32_i32 (F := Ideal)) y (iotaInDim S8x2048x1024 32 2) (constant S_ .f32 0xFF800000#32)
    (constantI S_ 32 0#32) reducesTo_S8x2048x1024_S8x2048_d2 h_S_

/-- The arg-max is the second half of it. -/
theorem best_eq (y : FVec Ideal S8x2048x1024 .f32) : best y = fun j => (bestPair y j).2 := by
  unfold best bestPair
  exact Eq.refl _

/-- The pair of a row of reals holds the row's first greatest position. -/
theorem bestPair_read (y : FVec Ideal S8x2048x1024 .f32) (b : Fin 8) (s : Fin 2048) (r : Fin 1024 → ℝ)
    (hr : ∀ f, y (ix3 b s f) = (r f : EReal)) (k : Fin 1024) (hk : FirstMax r k) (p : EReal × BitVec 32)
    (hp : bestPair y (ix2 b s) = p) : p.2 = BitVec.ofNat 32 k.val := by
  have e := argReduce_foldl (reducer_argmax_f32_i32 (F := Ideal)) y (iotaInDim S8x2048x1024 32 2) (constant S_ .f32 0xFF800000#32)
    (constantI S_ 32 0#32) reducesTo_S8x2048x1024_S8x2048_d2 h_S_ (ix2 b s) ⊥ 0#32 negInf rfl
  rw [← hp.symm.trans e |>.symm]
  refine fold_position hk _ _ fun p => (mem_fiber y b s p).trans ?_
  simp only [hr]

/-- The arg-max of a row of reals is its first greatest position. -/
theorem best_read (y : FVec Ideal S8x2048x1024 .f32) (b : Fin 8) (s : Fin 2048) (r : Fin 1024 → ℝ)
    (hr : ∀ f, y (ix3 b s f) = (r f : EReal)) (k : Fin 1024) (hk : FirstMax r k) : best y (ix2 b s) = BitVec.ofNat 32 k.val := by
  rw [best_eq]
  exact bestPair_read y b s r hr k hk _ rfl

/-- The bits 1 and 0 as numbers. -/
theorem number_one : (FloatOps.uitofp .f32 (1#1) : Ideal .f32) = (1 : EReal) := by
  show ((((1#1 : BitVec 1).toNat : ℕ) : ℝ) : EReal) = 1
  norm_num

/-- The number of a cleared bit is 0. -/
theorem number_zero : (FloatOps.uitofp .f32 (0#1) : Ideal .f32) = (0 : EReal) := by
  show ((((0#1 : BitVec 1).toNat : ℕ) : ℝ) : EReal) = 0
  norm_num

/-- A sum less a vector, read at an index. -/
theorem sum_less_read (x y : FVec Ideal S8x2048x1024 .f32) (i : S8x2048x1024.Idx) : subf (addf x y) y i = x i + y i - y i := rfl

/-- A one-hot entry: 1 at the row's position, 0 elsewhere. -/
theorem oneHot_read (w : IVec S8x2048 32) (b : Fin 8) (s : Fin 2048) (f k : Fin 1024) (hw : w (ix2 b s) = BitVec.ofNat 32 k.val) :
    oneHot (F := Ideal) w (ix3 b s f) = if f = k then (1 : EReal) else 0 := by
  pointwise [oneHot]
  rw [hw, cmpi_position]
  by_cases h : f = k
  · rw [if_pos h, if_pos h.symm]
    exact number_one
  · rw [if_neg h, if_neg fun q => h q.symm]
    exact number_zero

/-- The straight-through mask of real probabilities is the one-hot row of their first greatest entry. -/
theorem mask_eq (y : FVec Ideal S8x2048x1024 .f32) (b : Fin 8) (s : Fin 2048) (r : Fin 1024 → ℝ)
    (hr : ∀ f, y (ix3 b s f) = (r f : EReal)) (k : Fin 1024) (hk : FirstMax r k) (f : Fin 1024) :
    mask y (ix3 b s f) = if f = k then (1 : EReal) else 0 := by
  unfold mask
  rw [sum_less_read, oneHot_read _ b s f k (best_read y b s r hr k hk), hr]
  split
  · rw [← EReal.coe_one, ← EReal.coe_add, ← EReal.coe_sub, add_sub_cancel_right]
  · rw [← EReal.coe_zero, ← EReal.coe_add, ← EReal.coe_sub, add_sub_cancel_right]

/-- The reference's mask: row `(b, s)` is 1 at the first greatest score and 0 elsewhere. -/
theorem mask_read (l u : FVec Ideal S8x2048x1024 .f32) (h : ∀ i, Fine (l i) (u i)) (b : Fin 8) (s : Fin 2048)
    (k : Fin 1024) (hk : FirstMax (rowScores l u b s) k) (f : Fin 1024) :
    mask (probs l u) (ix3 b s f) = if f = k then (1 : EReal) else 0 :=
  mask_eq _ b s (soft (rowScores l u b s) k) (probs_read l u h b s k hk) k (hk.transfer (soft_le_iff _ k)) f

end Cert.ReferenceIdeal.Hand

end

end
-- ==== Proof.Smallest.lean ====
/-
  The smallest entries of a row of zeros and few ones, found by a top-k of the negated row.

  A top-k sorts the row's positions and keeps the first `K`. Sorted by the negated entries, greatest first, the zeros come
  before the ones. When the row has at most `N` entries that are not 0 and `K + N` positions fit in it, the first `K`
  positions all hold zeros (`sorted_zero`).
-/
module

public import Idealize.ShloMosaic.PureOps.Ideal.Laws
public import Idealize.ShloMosaic.Lib.SortFacts
public import Idealize.ShloMosaic.Lib.Pipeline.Value
public import Idealize.ShloMosaic.Lib.Pointwise

@[expose] public section

noncomputable section

namespace Cert.Row

open Idealize.ShloMosaic

/-- Index `(b, q)` with its column replaced by `k`. -/
theorem along_read {R C : Nat} (b : Fin R) (q k : Fin C) : Shape.Idx.along (s := ⟨2, ![R, C]⟩) (ix2 b q) 1 k = ix2 b k := by
  funext c
  fin_cases c <;> rfl

/-- A sort of pairs along the columns, its second half read at place `q` of row `b`: the second entry at the position
    that the stable sort of the row's first entries puts at `q`. -/
theorem sort2_read {R C : Nat} {α β : Type} (gt : α → α → BitVec 1) (x : (⟨2, ![R, C]⟩ : Shape).Idx → α)
    (y : (⟨2, ![R, C]⟩ : Shape).Idx → β) (b : Fin R) (q : Fin C) :
    (Host.sort2 ⟨2, ![R, C]⟩ 1 (fun l r : α × β => gt l.1 r.1) x y).2 (ix2 b q)
      = y (ix2 b (sortedFrom (fun k k' : Fin C => gt (x (ix2 b k)) (x (ix2 b k')) == 1#1) q)) := by
  have h1 : 1 < (⟨2, ![R, C]⟩ : Shape).rank := Nat.one_lt_two
  unfold Host.sort2
  rw [dif_pos h1]
  refine (congrArg y (along_read b q _)).trans ?_
  refine congrArg (fun before => y (ix2 b (sortedFrom before q))) (funext fun k => funext fun k' => ?_)
  exact congrArg₂ (fun i j => gt (x i) (x j) == 1#1) (along_read b q k) (along_read b q k')

/-- The position words of a top-k along the columns, at place `p` of row `b`: the position that the stable sort of the
    row puts at `p`. -/
theorem topK_read {R C K : Nat} {α : Type} (gt : α → α → BitVec 1) (x : (⟨2, ![R, C]⟩ : Shape).Idx → α)
    (h : (⟨2, ![R, C]⟩ : Shape).Slices (fun _ => 0) ⟨2, ![R, K]⟩) (b : Fin R) (p : Fin K) (hp : p.val < C) :
    (Host.topK ⟨2, ![R, K]⟩ 1 gt x h).2 (ix2 b p)
      = BitVec.ofNat 32 (sortedFrom (fun k k' : Fin C => gt (x (ix2 b k)) (x (ix2 b k')) == 1#1) ⟨p.val, hp⟩).val := by
  have h1 : 1 < (⟨2, ![R, C]⟩ : Shape).rank := Nat.one_lt_two
  unfold Host.topK
  dsimp only
  refine (extractStridedSlice_apply (fun _ => 0) _ h (ix2 b p) (ix2 b ⟨p.val, hp⟩) fun a => ?_).trans ?_
  · fin_cases a
    · exact (Nat.zero_add _).symm
    · exact (Nat.zero_add _).symm
  · rw [sort2_read, dif_pos h1]
    rfl

/-- A row sorted by its negated entries, greatest first, in which at most `N` entries are not 0 — `c` tells them apart by
    `N` labels: the first `K` places hold zeros, when `K + N` places fit in the row. The entries are 0 or 1. -/
theorem sorted_zero {C N K : Nat} (g : Fin C → EReal) (hg : ∀ i, g i = 0 ∨ g i = 1) (c : Fin C → Fin N)
    (hc : ∀ i j, g i ≠ 0 → g j ≠ 0 → c i = c j → i = j) (hK : K + N ≤ C) (R : Fin C → Fin C → Bool)
    (hR : ∀ i j, R i j = true ↔ -g j < -g i) (p : Fin C) (hp : p.val < K) : g (sortedFrom R p) = 0 := by
  by_contra hne
  have hone : g (sortedFrom R p) = 1 := (hg _).resolve_left hne
  have hR' : ∀ i j, R i j = false ↔ -g i ≤ -g j := fun i j => by
    rw [← Bool.not_eq_true, hR, not_lt]
  -- every later place holds a one
  have later : ∀ q : Fin C, p ≤ q → g (sortedFrom R q) ≠ 0 := fun q hq => by
    rcases hq.eq_or_lt with rfl | hlt
    · exact hne
    · have := sortedFrom_noInversion R R (fun a b h => (hR' b a).2 ((hR a b).1 h).le) (fun _ _ h => h)
        (fun a b d h h' => (hR' a d).2 (((hR' a b).1 h).trans ((hR' b d).1 h'))) p q hlt
      rw [hR', hone, EReal.neg_le_neg_iff] at this
      intro h0
      rw [h0] at this
      exact absurd this (by norm_num)
  -- so that there are more than `N` of them
  have inj : Function.Injective fun m : Fin (C - p.val) => c (sortedFrom R ⟨p.val + m.val, by omega⟩) := fun m m' e => by
    have e1 := hc _ _ (later ⟨p.val + m.val, by omega⟩ (Fin.mk_le_mk.2 (Nat.le_add_right _ _)))
      (later ⟨p.val + m'.val, by omega⟩ (Fin.mk_le_mk.2 (Nat.le_add_right _ _))) e
    have e2 := Fin.ext_iff.1 (sortedFrom_injective R e1)
    exact Fin.ext (by simpa using e2)
  have card := Fintype.card_le_of_injective _ inj
  rw [Fintype.card_fin, Fintype.card_fin] at card
  omega

end Cert.Row

end

end
-- ==== Proof.RefDrop.lean ====
/-
  The reference's last step writes 0 only where the mask already holds 0.

  A batch has one entry 1 per row, 2048 in all, and 0 at its other 2095104 positions. The 209715 smallest entries that
  the reference looks for are therefore all zeros, and writing 0 there changes nothing: `dropped (flatMask y)` is the
  mask itself (`dropped_read`).
-/
module

public import proofs.«01_k».proof.Proof.RefRun
public import proofs.«01_k».proof.Proof.Smallest
public import proofs.«01_k».proof.Proof.FirstMax
public import Idealize.ShloMosaic.Lib.Routing.OpsPair
public import Idealize.ShloMosaic.Lib.Routing.OpsSet

@[expose] public section

noncomputable section

namespace Cert.ReferenceIdeal.Hand

open Idealize.ShloMosaic Cert.ReferenceIdeal Cert.ReferenceIdeal.Gen Cert.Row

/-- A scatter that writes one value `v` everywhere it lands, and lands only where the operand holds `v`, returns its
    operand. -/
theorem scatter_same {α : Type} {s si u : Shape} {w : Nat} (d : ScatterDims s si u) (x : s.Idx → α) (idx : IVec si w)
    (upd : u.Idx → α) (v : α) (hv : ∀ k, upd k = v) (hx : ∀ k i, d.resultIdx? k idx = some i → x i = v) :
    Host.scatter d (fun _ b => b) x idx upd = x := by
  funext i
  by_cases h : ∃ k, d.resultIdx? k idx = some i
  · obtain ⟨k, hk⟩ := h
    rw [Routing.scatter_set_hit d x idx upd i v (fun k _ => hv k) k hk, hx k i hk]
  · exact Routing.scatter_set_miss d x idx upd i fun k hk => h ⟨k, hk⟩

/-- A signed word below 0 is replaced by another, a small number's word is not: it stays. -/
theorem nonneg_stays {n : Nat} (h : n < 2147483648) (w : BitVec 32) :
    Scalar.select (IntOp.cmpi .slt (BitVec.ofNat 32 n) 0#32) w (BitVec.ofNat 32 n) = BitVec.ofNat 32 n := by
  have e : IntOp.cmpi .slt (BitVec.ofNat 32 n) 0#32 = 0#1 := by
    have : (BitVec.ofNat 32 n).slt 0#32 = false := by
      rw [BitVec.slt, toInt_ofNat h]
      simp
    simp only [IntOp.cmpi, this]
    rfl
  rw [e]
  rfl

/-- The first word of a pair is the batch. -/
theorem targets_batch (p : IVec S8x209715 32) (b : Fin 8) (q : Fin 209715) :
    targets (F := Ideal) p (ix3 b q 0) = BitVec.ofNat 32 b.val := by
  refine Eq.trans ?_ (nonneg_stays (n := b.val) (by omega) (IntOp.addi (BitVec.ofNat 32 b.val) 8#32))
  pointwise [targets, pairUp, batches, places]

/-- The second word of a pair is the position, when that is a number's word. -/
theorem targets_place (p : IVec S8x209715 32) (b : Fin 8) (q : Fin 209715) (n : Nat) (hn : n < 2147483648)
    (hp : p (ix2 b q) = BitVec.ofNat 32 n) : targets (F := Ideal) p (ix3 b q 1) = BitVec.ofNat 32 n := by
  refine Eq.trans ?_ (nonneg_stays hn (IntOp.addi (BitVec.ofNat 32 n) 2097152#32))
  rw [← hp]
  pointwise [targets, pairUp, batches, places]

/-- The positions found for a batch: those of the stable sort of its negated entries, greatest first. -/
def order (x : FVec Ideal S8x2097152 .f32) (b : Fin 8) : Fin 2097152 → Fin 2097152 :=
  sortedFrom fun k k' => (FloatOps.cmpfTotal (F := Ideal) .gt (Host.negf x (ix2 b k)) (Host.negf x (ix2 b k')) : BitVec 1) == 1#1

/-- The `q`-th smallest entry's position word. -/
theorem smallest_read (x : FVec Ideal S8x2097152 .f32) (b : Fin 8) (q : Fin 209715) :
    smallest x (ix2 b q) = BitVec.ofNat 32 (order x b ⟨q.val, by omega⟩).val := by
  unfold smallest order
  exact topK_read (FloatOps.cmpfTotal (F := Ideal) .gt) (Host.negf x) sliceFits_S8x2097152_S8x209715 b q (by omega)

/-- In a batch of zeros and ones whose rows hold at most one 1 each, the 209715 smallest entries are zeros. -/
theorem order_zero (x : FVec Ideal S8x2097152 .f32) (b : Fin 8) (hx : ∀ c : Fin 2097152, x (ix2 b c) = 0 ∨ x (ix2 b c) = 1)
    (h1 : ∀ c c' : Fin 2097152, x (ix2 b c) ≠ 0 → x (ix2 b c') ≠ 0 → c.val / 1024 = c'.val / 1024 → c = c')
    (q : Fin 209715) : x (ix2 b (order x b ⟨q.val, by omega⟩)) = 0 := by
  refine sorted_zero (N := 2048) (K := 209715) (fun c => x (ix2 b c)) hx (fun c => ⟨c.val / 1024, by omega⟩)
    (fun c c' hc hc' e => h1 c c' hc hc' (Fin.ext_iff.1 e)) (by norm_num) _ (fun i j => ?_) _ q.isLt
  rw [beq_iff_eq, Ideal.cmpfTotal_def]
  show Ideal.cmp .ogt (-(x (ix2 b i))) (-(x (ix2 b j))) = 1#1 ↔ _
  unfold Ideal.cmp
  by_cases h : -(x (ix2 b j)) < -(x (ix2 b i)) <;> simp only [h, decide_true, decide_false] <;> decide

/-- Two spellings of a pair's index. -/
theorem pair_eq (a : Fin 8) (q : Fin 209715) (c : Fin 2) : ValueIdx.ix3 a q c = ix3 a q c := by
  funext d
  fin_cases d <;> rfl

/-- Where pair `(a, q)` lands the batch holds 0. -/
theorem lands_zero (x : FVec Ideal S8x2097152 .f32) (hx : ∀ b (c : Fin 2097152), x (ix2 b c) = 0 ∨ x (ix2 b c) = 1)
    (h1 : ∀ b (c c' : Fin 2097152), x (ix2 b c) ≠ 0 → x (ix2 b c') ≠ 0 → c.val / 1024 = c'.val / 1024 → c = c')
    (a : Fin 8) (q : Fin 209715) (r : Fin 8) (c : Fin 2097152)
    (hk : scatter_S8x2097152_S8x209715x2_S8x209715_n_01_01_2.resultIdx? (ValueIdx.ix2 a q) (targets (F := Ideal) (smallest x))
      = some (ValueIdx.ix2 r c)) : x (ix2 r c) = 0 := by
  obtain ⟨e0, e1⟩ := (Routing.scatter_lands2 scatter_S8x2097152_S8x209715x2_S8x209715_n_01_01_2 rfl rfl rfl
    (targets (F := Ideal) (smallest x)) a q r c).1 hk
  have hlt := (order x a ⟨q.val, by omega⟩).isLt
  rw [pair_eq, targets_batch, toInt_ofNat (by omega)] at e0
  rw [pair_eq, targets_place _ _ _ _ (by omega) (smallest_read x a q), toInt_ofNat (by omega)] at e1
  have hr : r = a := Fin.ext (by exact_mod_cast e0.symm)
  have hc : c = order x a ⟨q.val, by omega⟩ := Fin.ext (by exact_mod_cast e1.symm)
  rw [hr, hc]
  exact order_zero x a (hx a) (h1 a) q

/-- Writing 0 at the smallest entries of such batches changes nothing. -/
theorem scatter_nothing (x : FVec Ideal S8x2097152 .f32) (hx : ∀ b (c : Fin 2097152), x (ix2 b c) = 0 ∨ x (ix2 b c) = 1)
    (h1 : ∀ b (c c' : Fin 2097152), x (ix2 b c) ≠ 0 → x (ix2 b c') ≠ 0 → c.val / 1024 = c'.val / 1024 → c = c') :
    Host.scatter scatter_S8x2097152_S8x209715x2_S8x209715_n_01_01_2 (fun _ b => b) x (targets (F := Ideal) (smallest x))
      (broadcastInDim S8x209715 ![] bcast_S_S8x209715 (constant S_ .f32 0x00000000#32)) = x := by
  refine scatter_same _ x _ _ (0 : EReal) (fun k => ?_) fun k i hk => ?_
  · exact Ideal.ofBits_zero .f32
  · rw [ValueIdx.eq_ix2 k, ValueIdx.eq_ix2 i] at hk
    have e := lands_zero x hx h1 (k 0) (k 1) (i 0) (i 1) hk
    exact (congrArg x (eq_ix2 i)).trans e

/-- A flattened mask read: position `c` of a batch is entry `c mod 1024` of row `c / 1024`. -/
theorem flatMask_read (y : FVec Ideal S8x2048x1024 .f32) (b : Fin 8) (c : Fin 2097152) :
    flatMask y (ix2 b c) = mask y (ix3 b (⟨c.val / 1024, by omega⟩ : Fin 2048) (⟨c.val % 1024, by omega⟩ : Fin 1024)) := by
  pointwise [flatMask]

/-- Back in three axes, entry by entry. -/
theorem unflat_read (x : FVec Ideal S8x2097152 .f32) (b : Fin 8) (s : Fin 2048) (f : Fin 1024) :
    shapeCast S8x2048x1024 x shapeCasts_S8x2097152_S8x2048x1024 (ix3 b s f)
      = x (ix2 b (⟨s.val * 1024 + f.val, by omega⟩ : Fin 2097152)) := by
  pointwise

/-- When every row of a mask is a one-hot row, the reference's last step leaves the mask as it is. -/
theorem dropped_read (y : FVec Ideal S8x2048x1024 .f32) (k : Fin 8 → Fin 2048 → Fin 1024)
    (hy : ∀ b s f, mask y (ix3 b s f) = if f = k b s then (1 : EReal) else 0) (b : Fin 8) (s : Fin 2048) (f : Fin 1024) :
    dropped (flatMask y) (ix3 b s f) = if f = k b s then (1 : EReal) else 0 := by
  unfold dropped
  rw [scatter_nothing, unflat_read, flatMask_read, ← hy]
  · congr 2 <;> apply Fin.ext <;> simp only <;> omega
  · intro b c
    rw [flatMask_read, hy]
    split
    · exact .inr rfl
    · exact .inl rfl
  · intro b c c' hc hc' e
    rw [flatMask_read, hy] at hc hc'
    have h := Fin.ext_iff.1 (not_not.1 fun q => hc (if_neg q))
    have h' := Fin.ext_iff.1 (not_not.1 fun q => hc' (if_neg q))
    have hs : (⟨c.val / 1024, by omega⟩ : Fin 2048) = ⟨c'.val / 1024, by omega⟩ := Fin.ext e
    rw [hs] at h
    simp only at h h'
    apply Fin.ext
    omega

end Cert.ReferenceIdeal.Hand

end

end
-- ==== Proof.KernelBlock.lean ====
/-
  What the kernel writes for one block of 2048 rows.

  The block's body scores each entry, takes each row's maximum, and among the positions at which the row equals its
  maximum takes the least; it writes 1 there and 0 elsewhere. On fine logits and draws that is the one-hot row of the
  first greatest score (`block_read`).
-/
module

public import proofs.«01_k».proof.Proof.Gen.KernelIdeal.Skeleton
public import proofs.«01_k».proof.Proof.Scores
public import Idealize.ShloMosaic.Lib.Pointwise

@[expose] public section

noncomputable section

namespace Cert.KernelIdeal.Hand

open Idealize.ShloMosaic Cert.KernelIdeal Cert.KernelIdeal.Gen Cert.Row

/-! ## The body in four steps -/

/-- The scores of a block. -/
def blockScores (x y : FVec Ideal S2048x1024 .f32) : FVec Ideal S2048x1024 .f32 :=
  subf (shapeCast S2048x1024 x shapeCasts_S2048x1024_S2048x1024)
    (log (subf (broadcast S2048x1024 (Scalar.ofBits .f32 0x00000000#32)) (log (shapeCast S2048x1024 y shapeCasts_S2048x1024_S2048x1024))))

/-- Each row's maximum. -/
def blockMax (z : FVec Ideal S2048x1024 .f32) : FVec Ideal S2048 .f32 :=
  multiReduction .maximumf [1] S2048 z 0xFF800000#32 reduces_S2048x1024_S2048 (.inl rfl) rfl

/-- The positions at which a row equals its maximum; 1024 at the others. -/
def blockHits (z : FVec Ideal S2048x1024 .f32) (t : FVec Ideal S2048 .f32) : IVec S2048x1024 32 :=
  select (cmpf .oeq z (broadcastTo S2048x1024 (shapeCast S2048x1 t shapeCasts_S2048_S2048x1) broadcasts_S2048x1_S2048x1024))
    (iota .tc S2048x1024 32 [1] iota_S2048x1024_d1_w32) (broadcast S2048x1024 1024#32)

/-- The least word of each row. -/
def blockLeast (w : IVec S2048x1024 32) : IVec S2048 32 :=
  multiReductionI .minsi [1] S2048 w 2147483647#32 reduces_S2048x1024_S2048 rfl

/-- The one-hot rows of a table of positions. -/
def blockOneHot (w : IVec S2048 32) : FVec Ideal S2048x1024 .f32 :=
  sitofp .f32 (extui 32 (cmpi .eq (iota .tc S2048x1024 32 [1] iota_S2048x1024_d1_w32)
    (broadcastTo S2048x1024 (shapeCast S2048x1 w shapeCasts_S2048_S2048x1) broadcasts_S2048x1_S2048x1024)) natLt_1_32)

/-- The printed body is the four steps in turn. -/
theorem body_eq (x y : FVec Ideal S2048x1024 .f32) :
    k0_pay1 (F := Ideal) x y = blockOneHot (blockLeast (blockHits (blockScores x y) (blockMax (blockScores x y)))) := rfl

/-! ## Each step at an entry -/

/-- Entry `f` inserted into row `p`. -/
theorem lift_row (p : Fin 2048) (f : Fin 1024) : (reduces_S2048x1024_S2048).lift (ix1 p) f = ix2 p f := by
  funext c
  apply Fin.ext
  fin_cases c <;> rfl

/-- A block's score. -/
theorem blockScores_read (x y : FVec Ideal S2048x1024 .f32) (p : Fin 2048) (f : Fin 1024) :
    blockScores x y (ix2 p f) = x (ix2 p f) - Ideal.log (0 - Ideal.log (y (ix2 p f))) := by
  pointwise [blockScores]

/-- A row's maximum is the fold of `max` over it. -/
theorem blockMax_read (z : FVec Ideal S2048x1024 .f32) (p : Fin 2048) :
    blockMax z (ix1 p) = (Finset.univ : Finset (Fin 1024)).fold max (⊥ : EReal) fun f => z (ix2 p f) := by
  unfold blockMax
  refine (Ideal.multiReduction_maximumf_single z _ reduces_S2048x1024_S2048 _ rfl (ix1 p)).trans ?_
  have e : z ∘ (reduces_S2048x1024_S2048).lift (ix1 p) = fun f : Fin 1024 => z (ix2 p f) := funext fun f => congrArg z (lift_row p f)
  have e0 : (FloatOps.ofBits .f32 0xFF800000#32 : Ideal .f32) = (⊥ : EReal) := by simp [Ideal.ofBits_def, Ideal.ofBits, Ideal.ieee]
  rw [e]
  exact congrArg (fun a => (Finset.univ : Finset (Fin 1024)).fold max a fun f => z (ix2 p f)) e0

/-- An entry equal to the row's maximum gives its position, another 1024. -/
theorem blockHits_read (z : FVec Ideal S2048x1024 .f32) (t : FVec Ideal S2048 .f32) (p : Fin 2048) (f : Fin 1024) :
    blockHits z t (ix2 p f) = if z (ix2 p f) = t (ix1 p) then BitVec.ofNat 32 f.val else 1024#32 := by
  pointwise [blockHits]

/-- A row's least word is the fold of the signed minimum over it. -/
theorem blockLeast_read (w : IVec S2048x1024 32) (p : Fin 2048) :
    blockLeast w (ix1 p) = (Finset.univ : Finset (Fin 1024)).fold IntOp.minsi 2147483647#32 fun f => w (ix2 p f) := by
  unfold blockLeast
  refine (multiReductionI_eq_fold .minsi w _ reduces_S2048x1024_S2048 rfl (ix1 p)).trans ?_
  refine ((reduces_S2048x1024_S2048).fold_filter_drop_single _ _ w (ix1 p)).trans ?_
  have e : w ∘ (reduces_S2048x1024_S2048).lift (ix1 p) = fun f : Fin 1024 => w (ix2 p f) := funext fun f => congrArg w (lift_row p f)
  rw [e]
  rfl

/-- A one-hot entry: 1 at the row's position, 0 elsewhere. -/
theorem blockOneHot_read (w : IVec S2048 32) (p : Fin 2048) (f k : Fin 1024) (hw : w (ix1 p) = BitVec.ofNat 32 k.val) :
    blockOneHot w (ix2 p f) = if f = k then (1 : EReal) else 0 := by
  pointwise [blockOneHot]
  rw [hw, cmpi_position]
  split
  · show ((((BitVec.setWidth 32 1#1).toInt : ℤ) : ℝ) : EReal) = 1
    norm_num
  · show ((((BitVec.setWidth 32 0#1).toInt : ℤ) : ℝ) : EReal) = 0
    norm_num

/-- The real scores of row `p`. -/
def rowScores (x y : FVec Ideal S2048x1024 .f32) (p : Fin 2048) (f : Fin 1024) : ℝ := gumbel (x (ix2 p f)) (y (ix2 p f))

/-- The block the kernel writes: row `p` is 1 at the first greatest score and 0 elsewhere. -/
theorem block_read (x y : FVec Ideal S2048x1024 .f32) (p : Fin 2048) (h : ∀ f : Fin 1024, Fine (x (ix2 p f)) (y (ix2 p f)))
    (k : Fin 1024) (hk : FirstMax (rowScores x y p) k) (f : Fin 1024) :
    k0_pay1 (F := Ideal) x y (ix2 p f) = if f = k then (1 : EReal) else 0 := by
  have hz : ∀ i : Fin 1024, blockScores x y (ix2 p i) = (rowScores x y p i : EReal) := fun i =>
    (blockScores_read x y p i).trans (kernel_score (h i))
  have hm : blockMax (blockScores x y) (ix1 p) = (rowScores x y p k : EReal) := by
    rw [blockMax_read]
    simp only [hz]
    exact hk.fold_max
  rw [body_eq]
  refine blockOneHot_read _ p f k ?_
  rw [blockLeast_read]
  simp only [blockHits_read, hm, hz]
  exact hk.fold_minsi

end Cert.KernelIdeal.Hand

end

end
-- ==== Proof.Mark.lean ====
/-
  The row of marks: 1 at a row's first greatest entry and 0 elsewhere.
-/
module

public import proofs.«01_k».proof.Proof.FirstMax
public import Mathlib.Data.EReal.Basic

@[expose] public section

noncomputable section

namespace Cert.Row

open Classical in
/-- 1 at the first greatest entry of `r`, 0 at every other place. -/
def mark {n : ℕ} (r : Fin n → ℝ) (f : Fin n) : EReal := if FirstMax r f then 1 else 0

/-- Once the first greatest place `k` of the row is known, the mark is the indicator of `k`. -/
theorem mark_eq {n : ℕ} {r : Fin n → ℝ} {k : Fin n} (hk : FirstMax r k) (f : Fin n) :
    mark r f = if f = k then 1 else 0 := by
  unfold mark
  by_cases hf : f = k
  · subst hf
    rw [if_pos hk, if_pos rfl]
  · rw [if_neg hf, if_neg fun h => hf (FirstMax.unique h hk)]

end Cert.Row
-- ==== Proof.KernelArray.lean ====
/-
  From one block to the whole result of the kernel.

  The two arguments are laid out as 16384 rows of 1024 entries, point `t` of the grid handles the rows
  `2048 t, …, 2048 t + 2047`, and the rows of the output are then laid out as the result's 8 × 2048 rows.
-/
module

public import proofs.«01_k».proof.Proof.Gen.KernelIdeal.Frame
public import proofs.«01_k».proof.Proof.KernelBlock
public import proofs.«01_k».proof.Proof.Mark
public import Idealize.ShloMosaic.Lib.Pipeline.Value
public import Idealize.ShloMosaic.Lib.StableHlo.RunRead
public import Idealize.ShloMosaic.Lib.Pointwise

@[expose] public section

noncomputable section

namespace Cert.KernelIdeal.Hand

open Idealize.ShloMosaic Idealize.ShloMosaic.TcCoe Idealize.SL.Sem
open Cert.KernelIdeal Cert.KernelIdeal.Gen Cert.Row

/-- The marks of an array of 16384 rows of scores. -/
def marks (a b : FVec Ideal S16384x1024 .f32) : FVec Ideal S16384x1024 .f32 :=
  fun i => mark (fun f => gumbel (a (ix2 (i 0) f)) (b (ix2 (i 0) f))) (i 1)

/-- The row of the whole array at which row `p` of point `t`'s block lies. -/
def rowAt (t : Fin cfg0.N) (p : Fin 2048) : Fin 16384 :=
  ⟨2048 * t.val + p.val, by have h : t.val < 8 := lt_of_lt_of_eq t.isLt N_0; omega⟩

/-- Where an entry of point `t`'s block lies in the first operand. -/
theorem emb_logits (t : Fin cfg0.N) (p : Fin 2048) (f : Fin 1024) :
    ((cfg0.win 0).blk t).view.emb (ix2 p f) = ix2 (rowAt t p) f := by
  have e : win0_0.index t 0 * win0_0.size 0 = 2048 * t.val ∧ win0_0.index t 1 * win0_0.size 1 = 0 := by
    rcases fin_N0 t with rfl | rfl | rfl | rfl | rfl | rfl | rfl | rfl <;> decide +kernel
  funext a
  apply Fin.ext
  match a with
  | ⟨0, _⟩ =>
    show win0_0.index t 0 * win0_0.size 0 + 1 * p.val = 2048 * t.val + p.val
    rw [e.1]; omega
  | ⟨1, _⟩ =>
    show win0_0.index t 1 * win0_0.size 1 + 1 * f.val = f.val
    rw [e.2]; omega

/-- Where an entry of point `t`'s block lies in the second operand. -/
theorem emb_draws (t : Fin cfg0.N) (p : Fin 2048) (f : Fin 1024) :
    ((cfg0.win 1).blk t).view.emb (ix2 p f) = ix2 (rowAt t p) f := by
  have e : win0_1.index t 0 * win0_1.size 0 = 2048 * t.val ∧ win0_1.index t 1 * win0_1.size 1 = 0 := by
    rcases fin_N0 t with rfl | rfl | rfl | rfl | rfl | rfl | rfl | rfl <;> decide +kernel
  funext a
  apply Fin.ext
  match a with
  | ⟨0, _⟩ =>
    show win0_1.index t 0 * win0_1.size 0 + 1 * p.val = 2048 * t.val + p.val
    rw [e.1]; omega
  | ⟨1, _⟩ =>
    show win0_1.index t 1 * win0_1.size 1 + 1 * f.val = f.val
    rw [e.2]; omega

/-- Where an entry of point `t`'s block lies in the result. -/
theorem emb_result (t : Fin cfg0.N) (p : Fin 2048) (f : Fin 1024) :
    ((cfg0.win 2).blk t).view.emb (ix2 p f) = ix2 (rowAt t p) f := by
  have e : win0_2.index t 0 * win0_2.size 0 = 2048 * t.val ∧ win0_2.index t 1 * win0_2.size 1 = 0 := by
    rcases fin_N0 t with rfl | rfl | rfl | rfl | rfl | rfl | rfl | rfl <;> decide +kernel
  funext a
  apply Fin.ext
  match a with
  | ⟨0, _⟩ =>
    show win0_2.index t 0 * win0_2.size 0 + 1 * p.val = 2048 * t.val + p.val
    rw [e.1]; omega
  | ⟨1, _⟩ =>
    show win0_2.index t 1 * win0_2.size 1 + 1 * f.val = f.val
    rw [e.2]; omega

variable (m : (ℓ : Loc nD τ sig) → Buf (Elt Ideal) ℓ) (ρ : Dev nD → PrngReg)

/-- The logits as 16384 rows. -/
abbrev logitRows (c : Dev nD) : FVec Ideal S16384x1024 .f32 :=
  shapeCast S16384x1024 (m ((c : Thread nD τ).loc main_arg0)) shapeCasts_S8x2048x1024_S16384x1024

/-- The draws as 16384 rows. -/
abbrev drawRows (c : Dev nD) : FVec Ideal S16384x1024 .f32 :=
  shapeCast S16384x1024 (m ((c : Thread nD τ).loc main_arg1)) shapeCasts_S8x2048x1024_S16384x1024

/-- The kernel's first operand is the logits as 16384 rows. -/
theorem entry_logits (c : Dev nD) : V m c main_v0 = logitRows m c := by
  unfold V V0
  after_reads_simp
  rfl

/-- The kernel's second operand is the draws as 16384 rows. -/
theorem entry_draws (c : Dev nD) : V m c main_v1 = drawRows m c := by
  unfold V V0
  after_reads_simp
  rfl

/-- Entry `(p, f)` of point `t`'s block of logits. -/
theorem block_logits (c : Dev nD) (t : Fin cfg0.N) (p : Fin 2048) (f : Fin 1024) :
    iblk m c 0 t (ix2 p f) = logitRows m c (ix2 (rowAt t p) f) := by
  show V m c main_v0 (((cfg0.win 0).blk t).view.emb (ix2 p f)) = _
  exact (congrArg _ (emb_logits t p f)).trans (congrFun (entry_logits m c) _)

/-- Entry `(p, f)` of point `t`'s block of draws. -/
theorem block_draws (c : Dev nD) (t : Fin cfg0.N) (p : Fin 2048) (f : Fin 1024) :
    iblk m c 1 t (ix2 p f) = drawRows m c (ix2 (rowAt t p) f) := by
  show V m c main_v1 (((cfg0.win 1).blk t).view.emb (ix2 p f)) = _
  exact (congrArg _ (emb_draws t p f)).trans (congrFun (entry_draws m c) _)

/-- Both offsets of a whole block are 0. -/
theorem no_offset : (![0, 0] : Fin 2 → Nat) = fun _ => 0 := funext fun a => by fin_cases a <;> rfl

/-- What the body leaves in the output block is its one store, computed from the two whole input blocks. -/
theorem stored (x y : FVec Ideal S2048x1024 .f32) : out0_2 (F := Ideal) x y = k0_pay1 (F := Ideal) x y := by
  unfold out0_2
  rw [View.canon_unit_zero no_offset, View.ld_unit_zero no_offset, View.ld_unit_zero no_offset]

/-- On fine arguments point `t` leaves in its output block the marks of its rows. -/
theorem block_marks (c : Dev nD) (t : Fin cfg0.N)
    (h : ∀ i, Fine (logitRows m c i) (drawRows m c i)) (p : Fin 2048) (f : Fin 1024) :
    k0_pay1 (F := Ideal) (iblk m c 0 t) (iblk m c 1 t) (ix2 p f)
      = marks (logitRows m c) (drawRows m c) (ix2 (rowAt t p) f) := by
  have hr : rowScores (iblk m c 0 t) (iblk m c 1 t) p
      = fun f => gumbel (logitRows m c (ix2 (rowAt t p) f)) (drawRows m c (ix2 (rowAt t p) f)) :=
    funext fun f => congrArg₂ gumbel (block_logits m c t p f) (block_draws m c t p f)
  obtain ⟨k, hk⟩ := FirstMax.exists (by decide) (rowScores (iblk m c 0 t) (iblk m c 1 t) p)
  refine (block_read _ _ p (fun f => ?_) k hk f).trans ?_
  · have e := h (ix2 (rowAt t p) f)
    rwa [← block_logits m c t p f, ← block_draws m c t p f] at e
  · rw [hr] at hk
    exact (mark_eq hk f).symm

/-- What point `t` writes back is its block of the marks of the whole array. -/
theorem flushed_marks (c : Dev nD) (t : Fin cfg0.N) (h : ∀ i, Fine (logitRows m c i) (drawRows m c i)) :
    (dats m 0 c).flushed 2 t
      = ((cfg0.win 2).blk t).view.read (Elt Ideal) (marks (logitRows m c) (drawRows m c)) := by
  show (cfg0.win 2).cut (grid0.coords t) ((dats m 0 c).after 2 t) = _
  rw [after0_2, stored]
  funext j
  obtain ⟨p, f, rfl⟩ : ∃ (p : Fin 2048) (f : Fin 1024), j = ix2 p f := ⟨j 0, j 1, by funext a; fin_cases a <;> rfl⟩
  exact (block_marks m c t h p f).trans (congrArg _ (emb_result t p f)).symm

/-- Every row of the output lies in the block of some point. -/
theorem covered (i : S16384x1024.Idx) :
    ∃ t : Fin cfg0.N, (cfg0.win 2).flush t = true ∧ i ∈ ((cfg0.win 2).blk t).view.set := by
  have h0 : (i 0).val < 16384 := (i 0).isLt
  have ht : (i 0).val / 2048 < cfg0.N := lt_of_lt_of_eq (by omega) N_0.symm
  refine ⟨⟨(i 0).val / 2048, ht⟩, flush0_2 _, ?_⟩
  have e := emb_result ⟨(i 0).val / 2048, ht⟩ ⟨(i 0).val % 2048, by omega⟩ (i 1)
  have hi : ix2 (rowAt ⟨(i 0).val / 2048, ht⟩ ⟨(i 0).val % 2048, by omega⟩) (i 1) = i := by
    funext a
    match a with
    | ⟨0, _⟩ => exact Fin.ext (Nat.div_add_mod _ _)
    | ⟨1, _⟩ => rfl
  have q := View.emb_mem_set ((cfg0.win 2).blk ⟨(i 0).val / 2048, ht⟩).view (ix2 ⟨(i 0).val % 2048, by omega⟩ (i 1))
  rwa [e.trans hi] at q

/-- The kernel's output array after the run, on fine arguments: the marks of the whole array. -/
theorem array_marks (c : Dev nD) (h : ∀ i, Fine (logitRows m c i) (drawRows m c i)) :
    (dats m 0 c).arrAt 2 cfg0.N = marks (logitRows m c) (drawRows m c) :=
  (dats m 0 c).arrAt_eq_of_cover 2 _ (fun t _ => flushed_marks m c t h) covered

/-- After the run the result is the output array laid out as 8 × 2048 rows. -/
theorem result_eq (c : Dev nD) :
    Pipeline.afterTail₀ cfgs (dats m) 0 (V0 m) [hostOps1] c main_v3
      = shapeCast S8x2048x1024 ((dats m 0 c).arrAt 2 cfg0.N) shapeCasts_S16384x1024_S8x2048x1024 := by
  unfold Pipeline.afterTail₀
  after_reads_simp
  exact congrArg (fun z => shapeCast S8x2048x1024 z shapeCasts_S16384x1024_S8x2048x1024)
    (Pipeline.withArrays_arr (cfgs 0).spec launch0.win.arr_inj c (V0 m c) (fun w => (dats m 0 c).arrAt w (cfgs 0).N) 2)

/-- The row of scores at batch `b`, place `s`. -/
def argScores (l u : FVec Ideal S8x2048x1024 .f32) (b : Fin 8) (s : Fin 2048) (f : Fin 1024) : ℝ :=
  gumbel (l (ix3 b s f)) (u (ix3 b s f))

/-- Where row `s` of batch `b` lies among the 16384 rows. -/
def flatRow (b : Fin 8) (s : Fin 2048) : Fin 16384 := ⟨2048 * b.val + s.val, by omega⟩

/-- Reading the arguments laid out as 16384 rows. -/
theorem rows_read (z : FVec Ideal S8x2048x1024 .f32) (b : Fin 8) (s : Fin 2048) (f : Fin 1024) :
    shapeCast S16384x1024 z shapeCasts_S8x2048x1024_S16384x1024 (ix2 (flatRow b s) f) = z (ix3 b s f) := by
  refine shapeCast_apply z shapeCasts_S8x2048x1024_S16384x1024 _ _ ?_
  rw [Shape.rowMajor_val_three, Shape.rowMajor_val_two]
  show (b.val * 2048 + s.val) * 1024 + f.val = (2048 * b.val + s.val) * 1024 + f.val
  omega

/-- Laying 16384 rows out as 8 × 2048 of them. -/
theorem result_read (z : FVec Ideal S16384x1024 .f32) (b : Fin 8) (s : Fin 2048) (f : Fin 1024) :
    shapeCast S8x2048x1024 z shapeCasts_S16384x1024_S8x2048x1024 (ix3 b s f) = z (ix2 (flatRow b s) f) := by
  refine shapeCast_apply z shapeCasts_S16384x1024_S8x2048x1024 _ _ ?_
  rw [Shape.rowMajor_val_three, Shape.rowMajor_val_two]
  show (2048 * b.val + s.val) * 1024 + f.val = (b.val * 2048 + s.val) * 1024 + f.val
  omega

/-- Fine arguments are fine in the other layout too. -/
theorem rows_fine (l u : FVec Ideal S8x2048x1024 .f32) (h : ∀ i, Fine (l i) (u i)) (i : S16384x1024.Idx) :
    Fine (shapeCast S16384x1024 l shapeCasts_S8x2048x1024_S16384x1024 i)
      (shapeCast S16384x1024 u shapeCasts_S8x2048x1024_S16384x1024 i) :=
  h _

/-- THE KERNEL'S RUN, on fine arguments: in the result, each row holds the marks of its scores, and the arguments are
    left as they were. -/
theorem run (h : ∀ (c : Dev nD) i, Fine (m ((c : Thread nD τ).loc main_arg0) i) (m ((c : Thread nD τ).loc main_arg1) i)) :
    θ_run defs (onTc (τ := τ) (main (F := Ideal))) ⟨m, fun _ => 0, ρ⟩ fun r => ∀ c : Dev nD,
      (∀ (b : Fin 8) (s : Fin 2048) (f : Fin 1024), r.2.mem ((c : Thread nD τ).loc main_v3) (ix3 b s f)
        = mark (argScores (m ((c : Thread nD τ).loc main_arg0)) (m ((c : Thread nD τ).loc main_arg1)) b s) f)
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r hr c => ⟨fun b s f => ?_, ?_, ?_⟩) (run_main m ρ)
  · have e := ((hr c).2 main_v3 (Pipeline.mem_restRefs_of main_v3 (by decide) (by decide))).trans (result_eq m c)
    rw [array_marks m c (rows_fine _ _ (h c))] at e
    refine (congrFun e (ix3 b s f)).trans ((result_read _ b s f).trans ?_)
    show mark (fun f => gumbel (logitRows m c (ix2 (flatRow b s) f)) (drawRows m c (ix2 (flatRow b s) f))) f = _
    exact congrArg (fun g => mark g f) (funext fun f => congrArg₂ gumbel (rows_read _ b s f) (rows_read _ b s f))
  · exact ((hr c).2 main_arg0 (Pipeline.mem_restRefs_of main_arg0 (by decide) (by decide))).trans (W_main_arg0 m (dats m) c)
  · exact ((hr c).2 main_arg1 (Pipeline.mem_restRefs_of main_arg1 (by decide) (by decide))).trans (W_main_arg1 m (dats m) c)

end Cert.KernelIdeal.Hand
-- ==== Proof.Domain.lean ====
/-
  What the precondition says of the arguments: every logit is a real number, and every draw is a real number strictly
  between 0 and 1.
-/
module

public import proofs.«01_k».proof.Pre_in_domain
public import proofs.«01_k».proof.Proof.Scores
public import Idealize.ShloMosaic.Lib.Pointwise
public import Idealize.ShloMosaic.Lib.IdealHost

@[expose] public section

noncomputable section

namespace Cert.Row

open Idealize.ShloMosaic

/-- The word of the bound on the logits is infinity. -/
theorem bound_word : Ideal.ofBits .f32 0x7F800000#32 = ⊤ := by
  simp [Ideal.ofBits, Ideal.ieee]

/-- An extended real whose absolute value is below infinity is a real number. -/
theorem real_of_abs_lt (x : EReal) (h : max x (-x) < ⊤) : ∃ a : ℝ, x = a := by
  induction x with
  | bot => simp at h
  | coe a => exact ⟨a, rfl⟩
  | top => simp at h

/-- An extended real strictly between 0 and 1 is a real number strictly between 0 and 1. -/
theorem real_of_between (y : EReal) (h0 : 0 < y) (h1 : y < 1) : ∃ b : ℝ, y = b ∧ 0 < b ∧ b < 1 := by
  induction y with
  | bot => simp at h0
  | coe b => exact ⟨b, rfl, by exact_mod_cast h0, by exact_mod_cast h1⟩
  | top => simp at h1

/-- A true word is a true statement. -/
theorem of_word {p : Prop} [Decidable p] (h : BitVec.ofBool (decide p) = 1#1) : p := by
  by_contra hp
  rw [decide_eq_false hp] at h
  exact absurd h (by decide)

/-- Where a conjunction of two bits is set, both are. -/
theorem and_bits (a b : BitVec 1) (h : a &&& b = 1#1) : a = 1#1 ∧ b = 1#1 := by
  revert a b
  decide

end Cert.Row

namespace Cert.Pre_in_domain

open Idealize.ShloMosaic Cert.Row

variable [Facts]

/-- The precondition at an index: the logit's absolute value below infinity, the draw above 0 and below 1. -/
theorem fn_read (l u : FVec Ideal S8x2048x1024 .f32) (i : S8x2048x1024.Idx) :
    fn (F := Ideal) l u i
      = (BitVec.ofBool (decide (max (l i) (-(l i)) < Ideal.ofBits .f32 0x7F800000#32))
          &&& BitVec.ofBool (decide (Ideal.ofBits .f32 0x00000000#32 < u i)))
        &&& BitVec.ofBool (decide (u i < Ideal.ofBits .f32 0x3F800000#32)) :=
  rfl

/-- Where the precondition holds, the arguments are fine. -/
theorem fine (l u : FVec Ideal S8x2048x1024 .f32) (h : fn (F := Ideal) l u = fun _ => 1#1) (i : S8x2048x1024.Idx) :
    Fine (l i) (u i) := by
  have e := (fn_read l u i).symm.trans (congrFun h i)
  obtain ⟨e, h1⟩ := and_bits _ _ e
  obtain ⟨hl, h0⟩ := and_bits _ _ e
  have hl := of_word hl
  have h0 := of_word h0
  have h1 := of_word h1
  rw [bound_word] at hl
  rw [Ideal.ofBits_zero .f32] at h0
  rw [Ideal.ofBits_one_f32] at h1
  obtain ⟨a, ha⟩ := real_of_abs_lt _ hl
  obtain ⟨b, hb, h2, h3⟩ := real_of_between _ h0 h1
  exact ⟨a, b, ha, hb, h2, h3⟩

end Cert.Pre_in_domain
-- ==== Proof.Equation.lean ====
/-
  The two runs side by side.

  On fine arguments the kernel and the reference both end with, in each row, 1 at the row's first greatest score and 0
  elsewhere.
-/
module

public import proofs.«01_k».proof.Proof.Gen.ReferenceIdeal
public import proofs.«01_k».proof.Proof.RefRow
public import proofs.«01_k».proof.Proof.RefDrop
public import proofs.«01_k».proof.Proof.KernelArray
public import proofs.«01_k».proof.Proof.Domain
public import Idealize.ShloMosaic.Lib.Quiescent

@[expose] public section

noncomputable section

namespace Cert.ReferenceIdeal.Hand

open Idealize.ShloMosaic Idealize.ShloMosaic.TcCoe Idealize.SL.Sem
open Cert.ReferenceIdeal Cert.Row

/-- The reference's result on fine arguments, entry by entry: the marks of each row's scores. -/
theorem result_marks (l u : FVec Ideal S8x2048x1024 .f32) (h : ∀ i, Fine (l i) (u i)) (b : Fin 8) (s : Fin 2048)
    (f : Fin 1024) : dropped (flatMask (probs l u)) (ix3 b s f) = mark (rowScores l u b s) f := by
  have first (b : Fin 8) (s : Fin 2048) : ∃ k, FirstMax (rowScores l u b s) k := FirstMax.exists (by decide) _
  choose k hk using first
  rw [mark_eq (hk b s)]
  exact dropped_read (probs l u) k (fun b s f => mask_read l u h b s (k b s) (hk b s) f) b s f

end Cert.ReferenceIdeal.Hand

namespace Cert.Proof

open Idealize.ShloMosaic Idealize.ShloMosaic.TcCoe Idealize.SL.Sem Cert.Row

/-- The array both programs end with: the marks of each row's scores. -/
def answer (l u : FVec Ideal Cert.KernelIdeal.S8x2048x1024 .f32) : FVec Ideal Cert.KernelIdeal.S8x2048x1024 .f32 :=
  fun i => mark (Cert.KernelIdeal.Hand.argScores l u (i 0) (i 1)) (i 2)

/-- An array holding the marks at every place is the common answer. -/
theorem eq_answer (l u x : FVec Ideal Cert.KernelIdeal.S8x2048x1024 .f32)
    (h : ∀ b s f, x (ix3 b s f) = mark (Cert.KernelIdeal.Hand.argScores l u b s) f) : x = answer l u :=
  funext fun i => (congrArg x (eq_ix3 i)).trans (h (i 0) (i 1) (i 2))

/-- The reference leaves the arguments as they were and every semaphore at zero. -/
theorem reference_frame [Cert.ReferenceIdeal.Facts]
    (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread _ Cert.ReferenceIdeal.τ).loc Cert.ReferenceIdeal.main_arg0)
          = m ((c.tc : Thread _ Cert.ReferenceIdeal.τ).loc Cert.ReferenceIdeal.main_arg0)
        ∧ r.2.mem ((c.tc : Thread _ Cert.ReferenceIdeal.τ).loc Cert.ReferenceIdeal.main_arg1)
          = m ((c.tc : Thread _ Cert.ReferenceIdeal.τ).loc Cert.ReferenceIdeal.main_arg1))
        ∧ r.2.sem = fun _ => 0) :=
  (θ_run Cert.ReferenceIdeal.defs _ _).mono (fun r h => ⟨fun c => (h c).2, sem_eq_zero_of_no_sems (by decide) r.2⟩)
    (Cert.ReferenceIdeal.Hand.run m ρ)

end Cert.Proof
-- ==== Proof.lean ====
/-
  The proof of `Cert.Claim`: the kernel and the reference run, keep their arguments and leave every semaphore at zero, and
  on arguments of the stated domain they end with equal results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_domain
public import proofs.«01_k».proof.Proof.Equation
public import Idealize.ShloMosaic.Adequacy
public import Idealize.ShloMosaic.Init

@[expose] public section

noncomputable section

namespace Cert.Proof

open Idealize.ShloMosaic Idealize.SL.Sem

/-- On arguments of the domain, the kernel and the reference end with the same array, the marks of each row's scores. -/
theorem equation : Cert.algebraic_KernelIdeal_ReferenceIdeal_pre_in_domain
    (hKernelIdeal := Cert.KernelIdeal.Gen.facts) (hReferenceIdeal := Cert.ReferenceIdeal.Gen.facts)
    (hPre_in_domain := Cert.Pre_in_domain.Gen.facts) := by
  intro m ρ m' ρ' hpre hsame
  have hfine := fun c => Cert.Pre_in_domain.fine _ _ (hpre c)
  refine ⟨fun c => answer (m ((c.tc : Thread _ Cert.KernelIdeal.τ).loc Cert.KernelIdeal.main_arg0))
    (m ((c.tc : Thread _ Cert.KernelIdeal.τ).loc Cert.KernelIdeal.main_arg1)), ?_, ?_⟩
  · exact (θ_run Cert.KernelIdeal.defs _ _).mono (fun _ h c => ⟨eq_answer _ _ _ (h c).1, (h c).2⟩)
      (Cert.KernelIdeal.Hand.run m ρ hfine)
  · refine (θ_run Cert.ReferenceIdeal.defs _ _).mono (fun _ h c => ⟨(h c).1.trans ?_, (h c).2⟩)
      (Cert.ReferenceIdeal.Hand.run m' ρ')
    rw [(hsame c).1, (hsame c).2]
    exact eq_answer _ _ _ (Cert.ReferenceIdeal.Hand.result_marks _ _ (hfine c))

/-- Every claim of the certificate. -/
theorem claim : Cert.Claim :=
  ⟨Cert.Kernel.Gen.facts, Cert.KernelIdeal.Gen.facts, Cert.ReferenceIdeal.Gen.facts, Cert.Pre_in_domain.Gen.facts,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    trivial,
    equation⟩

end Cert.Proof

end
